-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_sum_to_one [hPre_rows_sum_to_one : Cert.Pre_rows_sum_to_one.Facts] (m : (ℓ : Loc Cert.KernelIdeal.nD Cert.KernelIdeal.τ Cert.KernelIdeal.sig) → Buf (Elt Ideal) ℓ) : Prop :=
  ∀ c : Dev Cert.KernelIdeal.nD,
    (Cert.Pre_rows_sum_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_sum_to_one [hPre_rows_sum_to_one : Cert.Pre_rows_sum_to_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_sum_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_rows_sum_to_one [hKernelIdeal : Cert.KernelIdeal.Facts] [hPre_rows_sum_to_one : Cert.Pre_rows_sum_to_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_sum_to_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_rows_sum_to_one [hReferenceIdeal : Cert.ReferenceIdeal.Facts] [hPre_rows_sum_to_one : Cert.Pre_rows_sum_to_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_sum_to_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_rows_sum_to_one [hKernelIdeal : Cert.KernelIdeal.Facts] [hReferenceIdeal : Cert.ReferenceIdeal.Facts] [hPre_rows_sum_to_one : Cert.Pre_rows_sum_to_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_sum_to_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_rows_sum_to_one : Cert.Pre_rows_sum_to_one.Facts),
    quiescent_Kernel (hKernel := hKernel)
    ∧ quiescent_KernelIdeal (hKernelIdeal := hKernelIdeal)
    ∧ quiescent_KernelIdeal_pre_rows_sum_to_one (hKernelIdeal := hKernelIdeal) (hPre_rows_sum_to_one := hPre_rows_sum_to_one)
    ∧ quiescent_ReferenceIdeal (hReferenceIdeal := hReferenceIdeal)
    ∧ quiescent_ReferenceIdeal_pre_rows_sum_to_one (hReferenceIdeal := hReferenceIdeal) (hPre_rows_sum_to_one := hPre_rows_sum_to_one)
    ∧ preserves_Kernel_KernelIdeal
    ∧ algebraic_KernelIdeal_ReferenceIdeal_pre_rows_sum_to_one (hKernelIdeal := hKernelIdeal) (hReferenceIdeal := hReferenceIdeal) (hPre_rows_sum_to_one := hPre_rows_sum_to_one)
-- ==== Pre_rows_sum_to_one.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩

class Facts : Prop where
  reducesTo_S10000x10000_S10000_d1 : S10000x10000.ReducesTo [1] S10000
  h_S_ : 0 < S_.numel
  bcast_S_S10000 : S_.BroadcastsInDim S10000 (![] : Fin 0 → Fin S10000.rank)

variable [Facts]

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S10000 1 :=
  let main_cst : FVec F S_ .f32 := constant S_ .f32 0x00000000#32
  let main_v0 : FVec F S10000 .f32 := (fun x v => Host.reduceAdd x v reducesTo_S10000x10000_S10000_d1 h_S_) main_arg1 main_cst
  let main_cst_0 : FVec F S_ .f32 := constant S_ .f32 0x3F800000#32
  let main_v1 : FVec F S10000 .f32 := broadcastInDim S10000 ![] bcast_S_S10000 main_cst_0
  let main_v2 : IVec S10000 1 := cmpf .oeq main_v0 main_v1
  main_v2
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10240x128 : Shape := ⟨2, ![10240, 128]⟩
abbrev S10240x10240 : Shape := ⟨2, ![10240, 10240]⟩
abbrev S10240x1 : Shape := ⟨2, ![10240, 1]⟩
abbrev S320x10240 : Shape := ⟨2, ![320, 10240]⟩
abbrev S320x128 : Shape := ⟨2, ![320, 128]⟩
abbrev S320x1 : Shape := ⟨2, ![320, 1]⟩
abbrev S1x128x128 : Shape := ⟨3, ![1, 128, 128]⟩
abbrev S5x128x128 : Shape := ⟨3, ![5, 128, 128]⟩
abbrev S1x1x128 : Shape := ⟨3, ![1, 1, 128]⟩
abbrev S5x1x128 : Shape := ⟨3, ![5, 1, 128]⟩
abbrev S1024x10240 : Shape := ⟨2, ![1024, 10240]⟩
abbrev S1024x1 : Shape := ⟨2, ![1024, 1]⟩
abbrev S1024x128 : Shape := ⟨2, ![1024, 128]⟩
abbrev S2x10240x128 : Shape := ⟨3, ![2, 10240, 128]⟩
abbrev S1x10240x128 : Shape := ⟨3, ![1, 10240, 128]⟩
abbrev S1x1024x128 : Shape := ⟨3, ![1, 1024, 128]⟩

abbrev nBuf : Space → Nat
  | .hbm => 45
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .bf16⟩
  | .hbm, ⟨15, _⟩ => ⟨S128x128, .bf16⟩
  | .hbm, ⟨16, _⟩ => ⟨S128x128, .bf16⟩
  | .hbm, ⟨17, _⟩ => ⟨S128x128, .bf16⟩
  | .hbm, ⟨18, _⟩ => ⟨S128x128, .bf16⟩
  | .hbm, ⟨19, _⟩ => ⟨S128x128, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .bf16⟩
  | .hbm, ⟨27, _⟩ => ⟨S10240x128, .bf16⟩
  | .hbm, ⟨28, _⟩ => ⟨S10240x10240, .fp8e4m3⟩
  | .hbm, ⟨29, _⟩ => ⟨S10240x128, .bf16⟩
  | .hbm, ⟨30, _⟩ => ⟨S10240x1, .f32⟩
  | .hbm, ⟨31, _⟩ => ⟨S1x128x128, .bf16⟩
  | .hbm, ⟨32, _⟩ => ⟨S1x128x128, .bf16⟩
  | .hbm, ⟨33, _⟩ => ⟨S1x128x128, .bf16⟩
  | .hbm, ⟨34, _⟩ => ⟨S1x128x128, .bf16⟩
  | .hbm, ⟨35, _⟩ => ⟨S1x128x128, .bf16⟩
  | .hbm, ⟨36, _⟩ => ⟨S5x128x128, .bf16⟩
  | .hbm, ⟨37, _⟩ => ⟨S1x1x128, .f32⟩
  | .hbm, ⟨38, _⟩ => ⟨S1x1x128, .f32⟩
  | .hbm, ⟨39, _⟩ => ⟨S1x1x128, .f32⟩
  | .hbm, ⟨40, _⟩ => ⟨S1x1x128, .f32⟩
  | .hbm, ⟨41, _⟩ => ⟨S1x1x128, .f32⟩
  | .hbm, ⟨42, _⟩ => ⟨S5x1x128, .f32⟩
  | .hbm, ⟨43, _⟩ => ⟨S10240x128, .f32⟩
  | .hbm, ⟨44, _⟩ => ⟨S10000x128, .f32⟩
  | .local _ .vmem, ⟨0, _⟩ => ⟨S10240x128, .f32⟩
  | .local _ .vmem, ⟨1, _⟩ => ⟨S320x10240, .f32⟩
  | .local _ .vmem, ⟨2, _⟩ => ⟨S320x10240, .f32⟩
  | .local _ .vmem, ⟨3, _⟩ => ⟨S128x128, .bf16⟩
  | .local _ .vmem, ⟨4, _⟩ => ⟨S128x128, .bf16⟩
  | .local _ .vmem, ⟨5, _⟩ => ⟨S1x128, .f32⟩
  | .local _ .vmem, ⟨6, _⟩ => ⟨S10240x128, .bf16⟩
  | .local _ .vmem, ⟨7, _⟩ => ⟨S320x10240, .fp8e4m3⟩
  | .local _ .vmem, ⟨8, _⟩ => ⟨S320x10240, .fp8e4m3⟩
  | .local _ .vmem, ⟨9, _⟩ => ⟨S320x128, .bf16⟩
  | .local _ .vmem, ⟨10, _⟩ => ⟨S320x128, .bf16⟩
  | .local _ .vmem, ⟨11, _⟩ => ⟨S320x1, .f32⟩
  | .local _ .vmem, ⟨12, _⟩ => ⟨S320x1, .f32⟩
  | .local _ .vmem, ⟨13, _⟩ => ⟨S10240x128, .bf16⟩
  | .local _ .vmem, ⟨14, _⟩ => ⟨S10240x128, .bf16⟩
  | .local _ .vmem, ⟨15, _⟩ => ⟨S1024x10240, .fp8e4m3⟩
  | .local _ .vmem, ⟨16, _⟩ => ⟨S1024x10240, .fp8e4m3⟩
  | .local _ .vmem, ⟨17, _⟩ => ⟨S1024x1, .f32⟩
  | .local _ .vmem, ⟨18, _⟩ => ⟨S1024x1, .f32⟩
  | .local _ .vmem, ⟨19, _⟩ => ⟨S1x128x128, .bf16⟩
  | .local _ .vmem, ⟨20, _⟩ => ⟨S1x128x128, .bf16⟩
  | .local _ .vmem, ⟨21, _⟩ => ⟨S1x1x128, .f32⟩
  | .local _ .vmem, ⟨22, _⟩ => ⟨S1x1x128, .f32⟩
  | .local _ .vmem, ⟨23, _⟩ => ⟨S1024x128, .f32⟩
  | .local _ .vmem, ⟨24, _⟩ => ⟨S1024x128, .f32⟩
  | .local _ .vmem, ⟨25, _⟩ => ⟨S2x10240x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S320x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10240x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x10240 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![5, 10], ![false, false]⟩

def k1_off1 (i : grid1.Coords) : Fin 3 → Nat :=
  let arg0 : BitVec 32 := BitVec.ofNat 32 (i 0).val
  let c2_i32 : BitVec 32 := 2#32
  let v5 : BitVec 32 := Scalar.remsi arg0 c2_i32
  let v9 : Index := Scalar.indexCast v5
  let c0_3 : Index := 0#32
  let c0_4 : Index := 0#32
  ![v9.toNat, 0, 0]
def k1_cond2 (i : grid1.Coords) : BitVec 1 :=
  let arg0 : BitVec 32 := BitVec.ofNat 32 (i 0).val
  let c4_i32 : BitVec 32 := 4#32
  let v17 : BitVec 1 := Scalar.cmpi .slt arg0 c4_i32
  let v18 : BitVec 32 := Scalar.extui v17
  let c0_i32_7 : BitVec 32 := 0#32
  let v19 : BitVec 1 := Scalar.cmpi .ne v18 c0_i32_7
  v19

def k1_off2 (i : grid1.Coords) : Fin 3 → Nat :=
  let c1_i32 : BitVec 32 := 1#32
  let arg0 : BitVec 32 := BitVec.ofNat 32 (i 0).val
  let c2_i32 : BitVec 32 := 2#32
  let v5 : BitVec 32 := Scalar.remsi arg0 c2_i32
  let v42 : BitVec 32 := Scalar.subi c1_i32 v5
  let v44 : Index := Scalar.indexCast v42
  let arg1 : BitVec 32 := BitVec.ofNat 32 (i 1).val
  let c1024_i32_19 : BitVec 32 := 1024#32
  let v43 : BitVec 32 := Scalar.muli arg1 c1024_i32_19
  let v45 : Index := Scalar.indexCast v43
  let c0_20 : Index := 0#32
  ![v44.toNat, v45.toNat, 0]
def k1_cond3 (i : grid1.Coords) : BitVec 1 :=
  let arg0 : BitVec 32 := BitVec.ofNat 32 (i 0).val
  let c4_i32_8 : BitVec 32 := 4#32
  let v20 : BitVec 1 := Scalar.cmpi .eq arg0 c4_i32_8
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 1 → Memref sig .tc .vmem S10240x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x10240 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Proof.Reference.lean ====
/-
  The run of the reference: a program of host operations only, which has no semaphores.
-/
module

public import proofs.«01_k».proof.Proof.Gen.ReferenceIdeal
public import proofs.«01_k».proof.Proof.Gen.ReferenceIdeal.Run
public import proofs.«01_k».proof.Defs
public import Idealize.ShloMosaic.Lib.Claim

@[expose] public section

noncomputable section

namespace Cert.Proof

open Idealize.ShloMosaic Idealize.SL.Sem

/-- The reference's signature has no semaphore, so every counter function is the zero one. -/
theorem reference_counters {α : Type} [Zero α] (s : GSem Cert.ReferenceIdeal.nD Cert.ReferenceIdeal.τ Cert.ReferenceIdeal.sig → α) : s = fun _ => 0 :=
  funext fun g => match g with
    | (_, .reg k) => (show Fin 0 from k).elim0
    | (_, .dma k) => (show Fin 0 from k).elim0

/-- The reference's frame. -/
theorem reference_frame : Cert.quiescent_ReferenceIdeal := fun m g _ =>
  θ_run_mono (Cert.ReferenceIdeal.Value.run m g) fun r h => ⟨fun c => (h c).2, reference_counters _⟩

end Cert.Proof

end
-- ==== Proof.Access.lean ====
/-
  Loads and stores of a memref a core owns, as rules on `owns`: what a load of the whole memref reads, what a store of
  the whole memref leaves, and the same through a rectangle of it.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.ArrRel

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The run's ghost algebra: two copies of the pipelines' rounds. -/
abbrev UU : Type := UR sig nD τ × UR sig nD τ

local notation "𝕄" => MT nD τ sig Unit (Elt F) ℕ UU ℕ

/-- No recursive call is bounded: the trivial variants. -/
abbrev 𝒱₀ : Variants := Variants.none

theorem off2 : (![0, 0] : Fin 2 → Nat) = fun _ => 0 := by decide
theorem off3 : (![0, 0, 0] : Fin 3 → Nat) = fun _ => 0 := by decide

section Rules

variable (c : Dev nD) {E : Set ℕ} {sp : CoreSpace} {s : Shape} {e : EltTy}

/-- A load through a rectangle of an owned memref reads the contents there, and the memref is kept. -/
theorem load_part (M : Memref sig .tc sp s e) (r : Rect s) {hl : M.view.LoadsAt r.toLoadRect} (X : s.Idx → Elt F e)
    {k : (r.shape.Idx → Elt F e) → Prog (TpuEff nD τ sig (Elt F) Λ₀ .tc) PUnit} {Q : PUnit → sProp 𝕄} :
    owns (c : Thread nD τ) M fullShare X
      ⊢ iprop((owns (c : Thread nD τ) M fullShare X -∗ wp frame (wpE (defs₀ (F := F)) 𝒱₀ c none) E (k (View.ld X r)) Q)
        -∗ wp frame (wpE (defs₀ (F := F)) 𝒱₀ c none) E (.op (.load M r.toLoadRect hl) k) Q) := by
  unfold owns
  iintro ⟨%f, %hf, H⟩ Hk
  iapply (wp_load_rect 𝒱₀ (c : Thread nD τ) none E (m := M) (r := r) (View.set_slice_subset _ _)) $$ H
  iintro H
  rw [← hf]
  iapply Hk
  iexists f; isplitr; · ipureintro; rfl
  iexact H

/-- A load of the whole of an owned memref reads its contents. -/
theorem load_whole (M : Memref sig .tc sp s e) {off : Fin s.rank → Nat} (h0 : off = fun _ => 0)
    {inb : ∀ a, off a + s.size a ≤ s.size a} {hl : M.view.LoadsAt (Rect.unit off s.size inb).toLoadRect} (X : s.Idx → Elt F e)
    {k : (s.Idx → Elt F e) → Prog (TpuEff nD τ sig (Elt F) Λ₀ .tc) PUnit} {Q : PUnit → sProp 𝕄} :
    owns (c : Thread nD τ) M fullShare X
      ⊢ iprop((owns (c : Thread nD τ) M fullShare X -∗ wp frame (wpE (defs₀ (F := F)) 𝒱₀ c none) E (k X) Q)
        -∗ wp frame (wpE (defs₀ (F := F)) 𝒱₀ c none) E (.op (.load M (Rect.unit off s.size inb).toLoadRect hl) k) Q) := by
  have h := load_part (E := E) c M (Rect.unit off s.size inb) (hl := hl) X (k := k) (Q := Q)
  rwa [View.ld_unit_zero h0] at h

/-- A store through a rectangle of an owned memref: the payload there, the contents as they were elsewhere. -/
theorem store_part (M : Memref sig .tc sp s e) (r : Rect s) (w : r.shape.Idx → Elt F e)
    {hx : (M.access r).Stores Finset.univ} {hm : Finset.univ = Finset.univ ∨ ∀ a, r.stride a = 1} (X : s.Idx → Elt F e)
    {k : PUnit → Prog (TpuEff nD τ sig (Elt F) Λ₀ .tc) PUnit} {Q : PUnit → sProp 𝕄} :
    owns (c : Thread nD τ) M fullShare X
      ⊢ iprop((∀ Y, ⌜(∀ x, Y (r.emb x) = w x) ∧ ∀ y, y ∉ Finset.univ.map r.emb → Y y = X y⌝
            -∗ owns (c : Thread nD τ) M fullShare Y -∗ wp frame (wpE (defs₀ (F := F)) 𝒱₀ c none) E (k ⟨⟩) Q)
        -∗ wp frame (wpE (defs₀ (F := F)) 𝒱₀ c none) E (.op (.store M r w Finset.univ hx hm) k) Q) := by
  unfold owns
  iintro ⟨%f, %hf, H⟩ Hk
  iapply (wp_store 𝒱₀ (c : Thread nD τ) none E (m := M) (r := r) (Mk := Finset.univ) (View.set_slice_subset _ _)) $$ H
  iintro H
  iapply Hk $$ %(M.view.read (Elt F) ((M.access r).write (Elt F) f w Finset.univ))
  · ipureintro
    refine ⟨fun x => View.read_slice_write_emb r f w (Finset.mem_univ x), fun y hy => ?_⟩
    rw [← hf]; exact View.read_slice_write_of_not_mem r f w Finset.univ hy
  iexists _; isplitr
  swap; · iexact H
  ipureintro; rfl

/-- A store of the whole of an owned memref leaves the payload. -/
theorem store_whole (M : Memref sig .tc sp s e) {off : Fin s.rank → Nat} (h0 : off = fun _ => 0)
    {inb : ∀ a, off a + s.size a ≤ s.size a} (w : s.Idx → Elt F e)
    {hx : (M.access (Rect.unit off s.size inb)).Stores Finset.univ}
    {hm : Finset.univ = Finset.univ ∨ ∀ a, (Rect.unit off s.size inb).stride a = 1} (X : s.Idx → Elt F e)
    {k : PUnit → Prog (TpuEff nD τ sig (Elt F) Λ₀ .tc) PUnit} {Q : PUnit → sProp 𝕄} :
    owns (c : Thread nD τ) M fullShare X
      ⊢ iprop((owns (c : Thread nD τ) M fullShare w -∗ wp frame (wpE (defs₀ (F := F)) 𝒱₀ c none) E (k ⟨⟩) Q)
        -∗ wp frame (wpE (defs₀ (F := F)) 𝒱₀ c none) E (.op (.store M (Rect.unit off s.size inb) w Finset.univ hx hm) k) Q) := by
  iintro H Hk
  iapply (store_part c M (Rect.unit off s.size inb) w X) $$ H
  iintro %Y %hY H
  have e : Y = w := by
    subst h0
    funext y
    have := hY.1 y
    rwa [show (Rect.unit (fun _ => 0) s.size inb).emb y = y from Rect.emb_whole_apply s y] at this
  rw [e]
  iapply Hk
  iexact H

/-- The contents `X` with the payload `w` put at the offsets `off`. -/
def put (off size : Fin s.rank → Nat) (X : s.Idx → Elt F e) (w : (Shape.mk s.rank size).Idx → Elt F e) : s.Idx → Elt F e := fun y =>
  if h : ∀ a, off a ≤ (y a).val ∧ (y a).val - off a < size a then w (fun a => ⟨(y a).val - off a, (h a).2⟩) else X y

/-- A store through a unit-stride rectangle puts the payload at its offsets. -/
theorem store_put (M : Memref sig .tc sp s e) {off size : Fin s.rank → Nat} {inb : ∀ a, off a + size a ≤ s.size a}
    (w : (Rect.unit off size inb).shape.Idx → Elt F e) {hx : (M.access (Rect.unit off size inb)).Stores Finset.univ}
    {hm : Finset.univ = Finset.univ ∨ ∀ a, (Rect.unit off size inb).stride a = 1} (X : s.Idx → Elt F e)
    {k : PUnit → Prog (TpuEff nD τ sig (Elt F) Λ₀ .tc) PUnit} {Q : PUnit → sProp 𝕄} :
    owns (c : Thread nD τ) M fullShare X
      ⊢ iprop((owns (c : Thread nD τ) M fullShare (put off size X w) -∗ wp frame (wpE (defs₀ (F := F)) 𝒱₀ c none) E (k ⟨⟩) Q)
        -∗ wp frame (wpE (defs₀ (F := F)) 𝒱₀ c none) E (.op (.store M (Rect.unit off size inb) w Finset.univ hx hm) k) Q) := by
  iintro H Hk
  iapply (store_part c M (Rect.unit off size inb) w X) $$ H
  iintro %Y %hY H
  have e : Y = put off size X w := by
    funext y
    unfold put
    split
    · rename_i h
      have hy := hY.1 (fun a => ⟨(y a).val - off a, (h a).2⟩)
      rw [← hy]
      congr 1
      funext a
      apply Fin.ext
      have := Rect.idx_unit_val off size inb (fun a => ⟨(y a).val - off a, (h a).2⟩) a
      have h1 := (h a).1
      refine Eq.trans ?_ this.symm
      show (y a).val = off a + ((y a).val - off a)
      omega
    · rename_i h
      refine hY.2 y fun hm => h ?_
      obtain ⟨x, -, rfl⟩ := Finset.mem_map.mp hm
      intro a
      have h1 : ((Rect.unit off size inb).emb x a).val = off a + (x a).val := Rect.idx_unit_val off size inb x a
      have h2 : (x a).val < size a := (x a).isLt
      omega
  rw [e]
  iapply Hk
  iexact H

end Rules

end Cert.Proof

end
-- ==== Proof.Exit.lean ====
/-
  A call's arrays at its end, put back among the core's buffers: the buffers then hold some contents that agree with
  the entry contents off the call's outputs and that the call's write-backs allow at the outputs.
-/
module

public import proofs.«01_k».proof.Proof.Access
public import Idealize.ShloMosaic.Lib.Pipeline.FrameSuffix

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a call's end leaves, at the valuation `V'`: every array at contents its write-backs allow, every other buffer at `V`. -/
def Leaves (p : Fin 2) {c : Dev nD} (rd : Pipeline.RDat τ (Elt F) Unit ℕ UU ℕ (cfgs p) c) (V V' : Valuation τ sig (Elt F)) : Prop :=
  (∀ w, rd.ArrAt w (cfgs p).N (V' (Proc.devRef .tc (Pipeline.arrRef (cfgs p).spec w))))
    ∧ ∀ b : Ref sig .tc, b ∉ Finset.univ.image (Pipeline.arrRef (cfgs p).spec) → V' (Proc.devRef .tc b) = V (Proc.devRef .tc b)

/-- The arrays as a call leaves them and the buffers it does not touch are the core's buffers at one valuation. -/
theorem unscoped_of_arraysAt (p : Fin 2) (hw : Pipeline.WinFacts (Pipeline.pin (pcfgs (F := F)) adm p).spec) (harr : ∀ w, ((Pipeline.pin (pcfgs (F := F)) adm p).spec w).arr.IsWhole) (c : Dev nD)
    (rdats : (p : Fin 2) → (c : Dev nD) → Pipeline.RDat τ (Elt F) Unit ℕ UU ℕ (Pipeline.pin (pcfgs (F := F)) adm p) c)
    (hshare : ∀ w, (rdats p c).share w = fullShare) (V : Valuation τ sig (Elt F)) :
    iprop((rdats p c).arraysAt (Pipeline.pin (pcfgs (F := F)) adm p).N ∗ Pipeline.unscopedRest (Pipeline.pin (pcfgs (F := F)) adm p).spec c (fun b => V (Proc.devRef .tc b)))
      ⊢ (iprop(∃ V' : Valuation τ sig (Elt F), ⌜Leaves p (rdats p c) V V'⌝ ∗ unscopedBufs c (fun b => V' (Proc.devRef .tc b))) : sProp 𝕄) := by
  classical
  rw [Pipeline.RDat.arraysAt_eq (pcfgs (F := F)) adm rdats p c harr hshare]
  iintro ⟨Ha, Hr⟩
  ihave Ha := (bigSep_exists_pi Finset.univ (fun w Fw => iprop(⌜(rdats p c).ArrAt w (Pipeline.pin (pcfgs (F := F)) adm p).N Fw⌝
      ∗ (((c.tc : Thread nD τ).loc (Pipeline.arrRef (Pipeline.pin (pcfgs (F := F)) adm p).spec w)) ↦{fullShare} Fw : sProp 𝕄)))) $$ Ha
  icases Ha with ⟨%Fs, Ha⟩
  ihave Ha := (bigSep_pure_sep Finset.univ (fun w => (rdats p c).ArrAt w (Pipeline.pin (pcfgs (F := F)) adm p).N (Fs w))
      (fun w => (((c.tc : Thread nD τ).loc (Pipeline.arrRef (Pipeline.pin (pcfgs (F := F)) adm p).spec w)) ↦{fullShare} Fs w : sProp 𝕄))) $$ Ha
  icases Ha with ⟨%hFs, Ha⟩
  have hat := fun w => Pipeline.withArrays_arr (Pipeline.pin (pcfgs (F := F)) adm p).spec hw.arr_inj c V Fs w
  iexists Pipeline.withArrays (Pipeline.pin (pcfgs (F := F)) adm p).spec c V Fs
  isplitr
  · ipureintro
    refine ⟨fun w => ?_, fun b hb => Pipeline.withArrays_of_ne (Pipeline.pin (pcfgs (F := F)) adm p).spec c V Fs b fun w e => hb (e ▸ Finset.mem_image_of_mem _ (Finset.mem_univ w))⟩
    rw [hat w]; exact hFs w (Finset.mem_univ w)
  rw [Pipeline.unscopedBufs_split (Pipeline.pin (pcfgs (F := F)) adm) p hw.arr_unscoped hw.arr_inj c]
  isplitl [Ha]
  · have e : (bigSep Finset.univ fun w => (((c.tc : Thread nD τ).loc (Pipeline.arrRef (Pipeline.pin (pcfgs (F := F)) adm p).spec w)) ↦{fullShare} Fs w : sProp 𝕄))
        = bigSep Finset.univ fun w => (((c.tc : Thread nD τ).loc (Pipeline.arrRef (Pipeline.pin (pcfgs (F := F)) adm p).spec w)) ↦{fullShare} Pipeline.withArrays (Pipeline.pin (pcfgs (F := F)) adm p).spec c V Fs (Proc.devRef .tc (Pipeline.arrRef (Pipeline.pin (pcfgs (F := F)) adm p).spec w)) : sProp 𝕄) :=
      bigSep_congr fun w _ => by rw [hat w]
    iapply (Entails.of_eq e) $$ Ha
  · have e : (Pipeline.unscopedRest (Pipeline.pin (pcfgs (F := F)) adm p).spec c (fun b => V (Proc.devRef .tc b)) : sProp 𝕄)
        = Pipeline.unscopedRest (Pipeline.pin (pcfgs (F := F)) adm p).spec c (fun b => Pipeline.withArrays (Pipeline.pin (pcfgs (F := F)) adm p).spec c V Fs (Proc.devRef .tc b)) := by
      unfold Pipeline.unscopedRest
      refine bigSep_congr fun b hb => ?_
      beta_reduce
      rw [Pipeline.withArrays_of_ne (Pipeline.pin (pcfgs (F := F)) adm p).spec c V Fs b fun w e => (Finset.mem_sdiff.mp hb).2 (e ▸ Finset.mem_image_of_mem _ (Finset.mem_univ w))]
    iapply (Entails.of_eq e) $$ Hr

end Cert.Proof

end
-- ==== Proof.Body0.lean ====
/-
  One grid point of the first call's body. At point 0 it fills the scratch with the first layer's projected features;
  at every later point it reads one block of adjacency rows and writes that block's three results.
-/
module

public import proofs.«01_k».proof.Proof.Access

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first branch is taken at the first point, -/
theorem first0 : ∀ n : Fin 33, Scalar.cmpi .ne (Scalar.extui (Scalar.cmpi .eq (BitVec.ofNat 32 n.val) 0#32) : BitVec 32) 0#32 = 1#1 ↔ n.val = 0 := by decide
/-- and the second at the others. -/
theorem second0 (i : grid0.Coords) : k0_cond2 i = 1#1 ↔ (i 0).val ≠ 0 := by
  have h : ∀ n : Fin 33, Scalar.cmpi .ne (Scalar.extui (Scalar.cmpi .sgt (BitVec.ofNat 32 n.val) 0#32) : BitVec 32) 0#32 = 1#1 ↔ n.val ≠ 0 := by decide
  exact h (i 0)

/-- Point 0: the scratch holds the projected features of the staged input and weights. -/
theorem body0_first (c : Dev nD) {E : Set ℕ}
    (i : grid0.Coords)
    (arg1 : Memref sig .tc .vmem S10240x128 .f32) (harg1 : arg1.IsWhole)
    (arg2 : Memref sig .tc .vmem S320x10240 .f32) (harg2 : arg2.IsWhole)
    (arg3 : Memref sig .tc .vmem S128x128 .bf16) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S10240x128 .bf16) (harg6 : arg6.IsWhole)
    (arg7 : Memref sig .tc .vmem S320x10240 .fp8e4m3) (harg7 : arg7.IsWhole)
    (arg8 : Memref sig .tc .vmem S320x128 .bf16) (harg8 : arg8.IsWhole)
    (arg9 : Memref sig .tc .vmem S320x1 .f32) (harg9 : arg9.IsWhole)
    (arg10 : Memref sig .tc .vmem S10240x128 .bf16) (harg10 : arg10.IsWhole)
    (hi : (i 0).val = 0) (x : Vec F S10240x128 .f32) (w : Vec F S128x128 .bf16) (s : Vec F S10240x128 .bf16) (Q : PUnit → sProp 𝕄) :
    iprop(owns (c : Thread nD τ) arg1 fullShare x ∗ owns (c : Thread nD τ) arg3 fullShare w ∗ owns (c : Thread nD τ) arg10 fullShare s)
      ⊢ iprop(((owns (c : Thread nD τ) arg1 fullShare x ∗ owns (c : Thread nD τ) arg3 fullShare w ∗ owns (c : Thread nD τ) arg10 fullShare (k0_pay1 x w)) -∗ Q ⟨⟩)
        -∗ wp frame (wpE (defs₀ (F := F)) 𝒱₀ c none) E (cc0__layer1_body i arg1 harg1 arg2 harg2 arg3 harg3 arg4 harg4 arg5 harg5 arg6 harg6 arg7 harg7 arg8 harg8 arg9 harg9 arg10 harg10) Q) := by
  rw [cc0__layer1_body_eq_skeleton]
  unfold cc0__layer1_body_skel
  dsimp only
  rw [dif_pos ((first0 (i 0)).mpr hi), dif_neg (fun h => (second0 i).mp h hi)]
  simp only [Prog.lift, Prog.bind_op, Prog.bind_ret, Prog.pure_eq_ret]
  iintro ⟨H1, H3, H10⟩ Hk
  iapply (load_whole c arg1 off2 x) $$ H1
  iintro H1
  iapply (load_whole c arg3 off2 w) $$ H3
  iintro H3
  iapply (load_whole c arg10 off2 s) $$ H10
  iintro H10
  iapply (store_whole c arg10 off2 (k0_pay1 x w) s) $$ H10
  iintro H10
  rw [wp_ret]; imodintro
  iapply Hk
  isplitl [H1]; · iexact H1
  isplitl [H3]; · iexact H3
  iexact H10

/-- A later point: the block's quantised rows, row scales and projected layer. -/
theorem body0_later (c : Dev nD) {E : Set ℕ}
    (i : grid0.Coords)
    (arg1 : Memref sig .tc .vmem S10240x128 .f32) (harg1 : arg1.IsWhole)
    (arg2 : Memref sig .tc .vmem S320x10240 .f32) (harg2 : arg2.IsWhole)
    (arg3 : Memref sig .tc .vmem S128x128 .bf16) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S10240x128 .bf16) (harg6 : arg6.IsWhole)
    (arg7 : Memref sig .tc .vmem S320x10240 .fp8e4m3) (harg7 : arg7.IsWhole)
    (arg8 : Memref sig .tc .vmem S320x128 .bf16) (harg8 : arg8.IsWhole)
    (arg9 : Memref sig .tc .vmem S320x1 .f32) (harg9 : arg9.IsWhole)
    (arg10 : Memref sig .tc .vmem S10240x128 .bf16) (harg10 : arg10.IsWhole)
    (hi : (i 0).val ≠ 0) (a : Vec F S320x10240 .f32) (w : Vec F S128x128 .bf16) (b : Vec F S1x128 .f32) (u : Vec F S10240x128 .bf16)
    (s : Vec F S10240x128 .bf16) (y7 : Vec F S320x10240 .fp8e4m3) (y8 : Vec F S320x128 .bf16) (y9 : Vec F S320x1 .f32) (Q : PUnit → sProp 𝕄) :
    iprop(owns (c : Thread nD τ) arg2 fullShare a ∗ owns (c : Thread nD τ) arg4 fullShare w ∗ owns (c : Thread nD τ) arg5 fullShare b ∗ owns (c : Thread nD τ) arg6 fullShare u ∗ owns (c : Thread nD τ) arg10 fullShare s
        ∗ owns (c : Thread nD τ) arg7 fullShare y7 ∗ owns (c : Thread nD τ) arg8 fullShare y8 ∗ owns (c : Thread nD τ) arg9 fullShare y9)
      ⊢ iprop(((owns (c : Thread nD τ) arg2 fullShare a ∗ owns (c : Thread nD τ) arg4 fullShare w ∗ owns (c : Thread nD τ) arg5 fullShare b ∗ owns (c : Thread nD τ) arg6 fullShare u ∗ owns (c : Thread nD τ) arg10 fullShare s
        ∗ owns (c : Thread nD τ) arg7 fullShare (k0_pay4 (BitVec.ofNat 32 (i 0).val) a)
        ∗ owns (c : Thread nD τ) arg8 fullShare (k0_pay2 (Scalar.subi (BitVec.ofNat 32 (i 0).val) 1#32) (k0_pay6 (BitVec.ofNat 32 (i 0).val) a s) (k0_pay7 b) w)
        ∗ owns (c : Thread nD τ) arg9 fullShare (k0_pay5 (BitVec.ofNat 32 (i 0).val) a u)) -∗ Q ⟨⟩)
        -∗ wp frame (wpE (defs₀ (F := F)) 𝒱₀ c none) E (cc0__layer1_body i arg1 harg1 arg2 harg2 arg3 harg3 arg4 harg4 arg5 harg5 arg6 harg6 arg7 harg7 arg8 harg8 arg9 harg9 arg10 harg10) Q) := by
  rw [cc0__layer1_body_eq_skeleton]
  unfold cc0__layer1_body_skel
  rw [k0_part1_eq_skeleton]
  unfold k0_part1_skel
  dsimp only
  rw [dif_neg (fun h => hi ((first0 (i 0)).mp h)), dif_pos ((second0 i).mpr hi)]
  simp only [Prog.lift, Prog.bind_op, Prog.bind_ret, Prog.pure_eq_ret]
  iintro ⟨H2, H4, H5, H6, H10, H7, H8, H9⟩ Hk
  iapply (load_whole c arg2 off2 a) $$ H2
  iintro H2
  iapply (load_whole c arg7 off2 y7) $$ H7
  iintro H7
  iapply (store_whole c arg7 off2 (k0_pay4 (BitVec.ofNat 32 (i 0).val) a) y7) $$ H7
  iintro H7
  iapply (load_whole c arg6 off2 u) $$ H6
  iintro H6
  iapply (load_whole c arg9 off2 y9) $$ H9
  iintro H9
  iapply (store_whole c arg9 off2 (k0_pay5 (BitVec.ofNat 32 (i 0).val) a u) y9) $$ H9
  iintro H9
  iapply (load_whole c arg10 off2 s) $$ H10
  iintro H10
  iapply (load_whole c arg5 off2 b) $$ H5
  iintro H5
  iapply (load_whole c arg4 off2 w) $$ H4
  iintro H4
  iapply (load_whole c arg8 off2 y8) $$ H8
  iintro H8
  iapply (store_whole c arg8 off2 _ y8) $$ H8
  iintro H8
  rw [wp_ret]; imodintro
  iapply Hk
  isplitl [H2]; · iexact H2
  isplitl [H4]; · iexact H4
  isplitl [H5]; · iexact H5
  isplitl [H6]; · iexact H6
  isplitl [H10]; · iexact H10
  isplitl [H7]; · iexact H7
  isplitl [H8]; · iexact H8
  iexact H9

end Cert.Proof

end
-- ==== Proof.Region0.lean ====
/-
  The first call as a pipeline: what its windows' buffers and its scratch may hold at every grid point, and that its body
  keeps to that.
-/
module

public import proofs.«01_k».proof.Proof.Body0
public import Idealize.ShloMosaic.Lib.Pipeline.FrameBody

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the staging buffer of an input window of the first call holds at a point: the fetched block, over whatever the
    part past the array's edge held. -/
def In0 (V : Valuation τ sig (Elt F)) (w : Fin cfg0.W) (t : Fin cfg0.N) (Y : (cfg0.win w).block.Idx → Elt F (cfg0.win w).elt) : Prop :=
  ∃ d, Y = (cfg0.win w).fill (cfg0.grid.coords t) d (((cfg0.win w).blk t).view.read (Elt F) (V (Proc.devRef .tc (Pipeline.arrRef spec0 w))))

/-- What the scratch may hold once the first point is past. -/
def Scr0 (V : Valuation τ sig (Elt F)) (S : Vec F S10240x128 .bf16) : Prop :=
  ∃ (t : Fin cfg0.N) (x : Vec F S10240x128 .f32) (w : Vec F S128x128 .bf16), In0 V 0 t x ∧ In0 V 2 t w ∧ S = k0_pay1 x w

/-- The first grid coordinate of a point, as the body reads it. -/
abbrev co0 (t : Fin cfg0.N) : BitVec 32 := BitVec.ofNat 32 ((grid0.coords t) 0).val

/-- What the body may leave in a window's staging buffer: an input as it was; an output, from the second point on, the
    block computed from what the inputs and the scratch held. -/
def after0 (V : Valuation τ sig (Elt F)) : (w : Fin cfg0.W) → (t : Fin cfg0.N) → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ (X : Vec F S320x10240 .fp8e4m3) => ((grid0.coords t) 0).val ≠ 0 → ∃ a : Vec F S320x10240 .f32, In0 V 1 t a ∧ X = k0_pay4 (co0 t) a
  | 7 => fun t _ (X : Vec F S320x128 .bf16) => ((grid0.coords t) 0).val ≠ 0 → ∃ (a : Vec F S320x10240 .f32) (S : Vec F S10240x128 .bf16)
      (b : Vec F S1x128 .f32) (w : Vec F S128x128 .bf16), In0 V 1 t a ∧ Scr0 V S ∧ In0 V 4 t b ∧ In0 V 3 t w
        ∧ X = k0_pay2 (Scalar.subi (co0 t) 1#32) (k0_pay6 (co0 t) a S) (k0_pay7 b) w
  | 8 => fun t _ (X : Vec F S320x1 .f32) => ((grid0.coords t) 0).val ≠ 0 → ∃ (a : Vec F S320x10240 .f32) (u : Vec F S10240x128 .bf16),
      In0 V 1 t a ∧ In0 V 5 t u ∧ X = k0_pay5 (co0 t) a u

/-- Before the first point the scoped buffers hold anything; after it the scratch holds the projected features. -/
def Φ0 (V : Valuation τ sig (Elt F)) (c : Dev nD) (t : Fin (cfg0.N + 1)) : sProp 𝕄 :=
  if t.val = 0 then Pipeline.scopedRest spec0 c
  else iprop(∃ S, ⌜Scr0 V S⌝ ∗ owns (c : Thread nD τ) (Memref.whole cc0_scratch0) fullShare S
    ∗ ((∃ f : Buf (Elt F) ((c : Thread nD τ).loc cc0_scratch0), ((c : Thread nD τ).loc cc0_scratch0) ↦{fullShare} f) -∗ Pipeline.scopedRest spec0 c))

/-- The first call's proof data, from the buffers' contents `V` at its entry. -/
def rd0 (V : Valuation τ sig (Elt F)) (c : Dev nD) : Pipeline.RDat τ (Elt F) Unit ℕ UU ℕ cfg0 c where
  A w := V (Proc.devRef .tc (Pipeline.arrRef spec0 w))
  after := after0 V
  Φ := Φ0 V c
  q _ := fullShare
  owed _ := 0

theorem clip0 (w : Fin cfg0.W) (t t' : Fin cfg0.N) (h : (cfg0.win w).index t = (cfg0.win w).index t') :
    (cfg0.win w).clip (cfg0.grid.coords t) = (cfg0.win w).clip (cfg0.grid.coords t') := by
  match w, h with
  | 0, h => exact funext fun a => congrArg (fun f : Fin S10000x128.rank → Nat => Pipeline.Clip.of (f a) (S10240x128.size a) (S10000x128.size a)) h
  | 1, h => exact funext fun a => congrArg (fun f : Fin S10000x10000.rank → Nat => Pipeline.Clip.of (f a) (S320x10240.size a) (S10000x10000.size a)) h
  | 2, _ => rfl
  | 3, _ => rfl
  | 4, _ => rfl
  | 5, _ => rfl
  | 6, _ => rfl
  | 7, _ => rfl
  | 8, _ => rfl

/-- An input window is found as fetched. -/
theorem finds0 (V : Valuation τ sig (Elt F)) (c : Dev nD) (w : Fin cfg0.W) (hw : (cfg0.win w).isOut = false)
    (hkeep : ∀ t Y X, after0 V w t Y X → X = Y) (t : Fin cfg0.N) (Y) (h : (rd0 V c).Finds w t Y) : In0 V w t Y :=
  (rd0 V c).finds_in_eq_fetched w hw (clip0 w) hkeep t Y h

theorem Φ0_first (V : Valuation τ sig (Elt F)) (c : Dev nD) (t : Fin (cfg0.N + 1)) (h : t.val = 0) :
    (rd0 V c).Φ t = Pipeline.scopedRest spec0 c := if_pos h

theorem Φ0_later (V : Valuation τ sig (Elt F)) (c : Dev nD) (t : Fin (cfg0.N + 1)) (h : t.val ≠ 0) :
    (rd0 V c).Φ t = iprop(∃ S, ⌜Scr0 V S⌝ ∗ owns (c : Thread nD τ) (Memref.whole cc0_scratch0) fullShare S
      ∗ ((∃ f : Buf (Elt F) ((c : Thread nD τ).loc cc0_scratch0), ((c : Thread nD τ).loc cc0_scratch0) ↦{fullShare} f) -∗ Pipeline.scopedRest spec0 c)) :=
  if_neg h

/-- The scratch taken out of the scoped buffers, with what puts it back. -/
theorem scratch0 (c : Dev nD) : (Pipeline.scopedRest (Val := Elt F) spec0 c : sProp 𝕄)
    ⊢ iprop(∃ S, owns (c : Thread nD τ) (Memref.whole cc0_scratch0) fullShare S
      ∗ ((∃ f : Buf (Elt F) ((c : Thread nD τ).loc cc0_scratch0), ((c : Thread nD τ).loc cc0_scratch0) ↦{fullShare} f) -∗ Pipeline.scopedRest spec0 c)) := by
  rw [scopedRest0_eq]
  iintro ⟨⟨%s, Hs⟩, Hrest⟩
  iexists s
  isplitl [Hs]
  · rw [owns_whole]; iexact Hs
  iintro Hf
  isplitl [Hf]; · iexact Hf
  iexact Hrest

/-- The grid's one coordinate is the point. -/
theorem coord0 : ∀ t : Fin cfg0.N, ((grid0.coords t) 0).val = t.val := by decide

/-- A staging buffer handed back at contents its window's relation allows. -/
theorem put_back0 (V : Valuation τ sig (Elt F)) (c : Dev nD) (w : Fin cfg0.W) (t : Fin cfg0.N) (Y X : (cfg0.win w).block.Idx → Elt F (cfg0.win w).elt)
    (h : after0 V w t Y X) : (owns (c : Thread nD τ) ((cfg0.win w).stage (cfg0.slots t w)) fullShare X : sProp 𝕄)
      ⊢ iprop(∃ X, ⌜(rd0 V c).after w t Y X⌝ ∗ owns (c : Thread nD τ) ((cfg0.win w).stage (cfg0.slots t w)) fullShare X) := by
  iintro H
  iexists X
  isplitr; · ipureintro; exact h
  iexact H

/-- The body obligation of the first call. -/
theorem body_obligation0 (V : Valuation τ sig (Elt F)) (c : Dev nD) (ι : Unit) :
    (rd0 V c).BodyObligation (defs₀ (F := F)) 𝒱₀ ι Set.univ := by
  intro t Y hY
  have h0 := finds0 V c 0 rfl (fun _ _ _ h => h) t _ (hY 0)
  have h1 := finds0 V c 1 rfl (fun _ _ _ h => h) t _ (hY 1)
  have h2 := finds0 V c 2 rfl (fun _ _ _ h => h) t _ (hY 2)
  have h3 := finds0 V c 3 rfl (fun _ _ _ h => h) t _ (hY 3)
  have h4 := finds0 V c 4 rfl (fun _ _ _ h => h) t _ (hY 4)
  have h5 := finds0 V c 5 rfl (fun _ _ _ h => h) t _ (hY 5)
  have hb : defs₀ (F := F) .tc cfg0.body (cfg0.bodyArgs t (cfg0.slots t)) = bodyAt0 t := by
    unfold defs₀; rw [Defs.onTc_tc]
  rw [hb, bigSep_W0, bigSep_W0]
  rw [Φ0_later V c t.succ (Nat.succ_ne_zero _)]
  have hco := coord0 t
  by_cases ht : t.val = 0
  · rw [Φ0_first V c t.castSucc ht]
    iintro ⟨Hs, HO, H0, H1, H2, H3, H4, H5, H6, H7, H8⟩
    ihave Hs := (scratch0 c) $$ Hs
    icases Hs with ⟨%s, Hs, Hrest⟩
    iapply (body0_first c (grid0.coords t) _ _ _ _ _ _ _ _ _ _ _ _ _ _ _ _ _ _ _ _ (hco.trans ht) (Y 0) (Y 2) s) $$ [H0 H2 Hs]
    · isplitl [H0]; · iexact H0
      isplitl [H2]; · iexact H2
      iexact Hs
    iintro ⟨H0, H2, Hs⟩
    isplitl [Hs Hrest]
    · iexists (k0_pay1 (Y 0) (Y 2))
      isplitr; · ipureintro; exact ⟨t, Y 0, Y 2, h0, h2, rfl⟩
      isplitl [Hs]; · iexact Hs
      iexact Hrest
    isplitl [HO]; · iexact HO
    isplitl [H0]; · iapply (put_back0 V c 0 t _ _ (rfl)) $$ H0
    isplitl [H1]; · iapply (put_back0 V c 1 t _ _ (rfl)) $$ H1
    isplitl [H2]; · iapply (put_back0 V c 2 t _ _ (rfl)) $$ H2
    isplitl [H3]; · iapply (put_back0 V c 3 t _ _ (rfl)) $$ H3
    isplitl [H4]; · iapply (put_back0 V c 4 t _ _ (rfl)) $$ H4
    isplitl [H5]; · iapply (put_back0 V c 5 t _ _ (rfl)) $$ H5
    isplitl [H6]; · iapply (put_back0 V c 6 t _ _ (fun h => absurd (hco.trans ht) h)) $$ H6
    isplitl [H7]; · iapply (put_back0 V c 7 t _ _ (fun h => absurd (hco.trans ht) h)) $$ H7
    iapply (put_back0 V c 8 t _ _ (fun h => absurd (hco.trans ht) h)) $$ H8
  · rw [Φ0_later V c t.castSucc ht]
    iintro ⟨⟨%S, %hS, Hs, Hrest⟩, HO, H0, H1, H2, H3, H4, H5, H6, H7, H8⟩
    iapply (body0_later c (grid0.coords t) _ _ _ _ _ _ _ _ _ _ _ _ _ _ _ _ _ _ _ _ (fun h => ht (hco.symm.trans h)) (Y 1) (Y 3) (Y 4) (Y 5) S (Y 6) (Y 7) (Y 8)) $$ [H1 H3 H4 H5 Hs H6 H7 H8]
    · isplitl [H1]; · iexact H1
      isplitl [H3]; · iexact H3
      isplitl [H4]; · iexact H4
      isplitl [H5]; · iexact H5
      isplitl [Hs]; · iexact Hs
      isplitl [H6]; · iexact H6
      isplitl [H7]; · iexact H7
      iexact H8
    iintro ⟨H1, H3, H4, H5, Hs, H6, H7, H8⟩
    isplitl [Hs Hrest]
    · iexists S
      isplitr; · ipureintro; exact hS
      isplitl [Hs]; · iexact Hs
      iexact Hrest
    isplitl [HO]; · iexact HO
    isplitl [H0]; · iapply (put_back0 V c 0 t _ _ (rfl)) $$ H0
    isplitl [H1]; · iapply (put_back0 V c 1 t _ _ (rfl)) $$ H1
    isplitl [H2]; · iapply (put_back0 V c 2 t _ _ (rfl)) $$ H2
    isplitl [H3]; · iapply (put_back0 V c 3 t _ _ (rfl)) $$ H3
    isplitl [H4]; · iapply (put_back0 V c 4 t _ _ (rfl)) $$ H4
    isplitl [H5]; · iapply (put_back0 V c 5 t _ _ (rfl)) $$ H5
    isplitl [H6]; · iapply (put_back0 V c 6 t _ _ (fun _ => ⟨Y 1, h1, rfl⟩)) $$ H6
    isplitl [H7]; · iapply (put_back0 V c 7 t _ _ (fun _ => ⟨Y 1, S, Y 4, Y 3, h1, hS, h4, h3, rfl⟩)) $$ H7
    iapply (put_back0 V c 8 t _ _ (fun _ => ⟨Y 1, Y 5, h1, h5, rfl⟩)) $$ H8

end Cert.Proof

end
-- ==== Proof.Body1.lean ====
/-
  One grid point (layer, row block) of the second call's body. The very first point copies the first layer's result
  into plane 0 of the scratch. Every point forms its row block of the layer's aggregation from the plane the layer
  reads; the first four layers put the block's next features into the other plane, the last writes the result block.
-/
module

public import proofs.«01_k».proof.Proof.Access

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body after its first branch. -/
def stackTail (i : grid1.Coords)
    (arg2 : Memref sig .tc .vmem S10240x128 .bf16) (harg2 : arg2.IsWhole)
    (arg3 : Memref sig .tc .vmem S1024x10240 .fp8e4m3) (harg3 : arg3.IsWhole)
    (arg4 : Memref sig .tc .vmem S1024x1 .f32) (harg4 : arg4.IsWhole)
    (arg5 : Memref sig .tc .vmem S1x128x128 .bf16) (harg5 : arg5.IsWhole)
    (arg6 : Memref sig .tc .vmem S1x1x128 .f32) (harg6 : arg6.IsWhole)
    (arg7 : Memref sig .tc .vmem S1024x128 .f32) (harg7 : arg7.IsWhole)
    (arg8 : Memref sig .tc .vmem S2x10240x128 .bf16) (harg8 : arg8.IsWhole) :
    Prog (TpuEff nD τ sig (Elt F) Λ₀ .tc) PUnit := do
  let v6 : Vec F S1024x10240 .fp8e4m3 ← Prog.lift (.load arg3 (Rect.unit (s := S1024x10240) ![0, 0] S1024x10240.size inb_S1024x10240_S1024x10240_0_0).toLoadRect (View.loadsAt_vmem h_S1024x10240))
  let v10 : Vec F S1x10240x128 .bf16 ← Prog.lift (.load arg8 (Rect.unit (s := S2x10240x128) (k1_off1 i) S1x10240x128.size (k1_off1_inb i)).toLoadRect (View.loadsAt_vmem h_S1x10240x128))
  let v13 : Vec F S1024x1 .f32 ← Prog.lift (.load arg4 (Rect.unit (s := S1024x1) ![0, 0] S1024x1.size inb_S1024x1_S1024x1_0_0).toLoadRect (View.loadsAt_vmem h_S1024x1))
  if k1_h2 : k1_cond2 i = 1#1 then do
    let v23 : Vec F S1x1x128 .f32 ← Prog.lift (.load arg6 (Rect.unit (s := S1x1x128) ![0, 0, 0] S1x1x128.size inb_S1x1x128_S1x1x128_0_0_0).toLoadRect (View.loadsAt_vmem h_S1x1x128))
    let v25 : Vec F S1x128x128 .bf16 ← Prog.lift (.load arg5 (Rect.unit (s := S1x128x128) ![0, 0, 0] S1x128x128.size inb_S1x128x128_S1x128x128_0_0_0).toLoadRect (View.loadsAt_vmem h_S1x128x128))
    let v46 : Vec F S1x1024x128 .bf16 ← Prog.lift (.load arg8 (Rect.unit (s := S2x10240x128) (k1_off2 i) S1x1024x128.size (k1_off2_inb i k1_h2)).toLoadRect (View.loadsAt_vmem h_S1x1024x128))
    Prog.lift (.store arg8 (Rect.unit (s := S2x10240x128) (k1_off2 i) S1x1024x128.size (k1_off2_inb i k1_h2)) (k1_pay3 i v6 v10 v13 v23 v25) Finset.univ (View.stores_vmem h_S1x1024x128 (harg8.storeExact_slice rfl _ (k1_off2_packedbf16 i k1_h2)) (fun _ => rfl)) (.inl rfl))
    pure ⟨⟩
  else do
    pure ⟨⟩
  if k1_h3 : k1_cond3 i = 1#1 then do
    let v23 : Vec F S1x1x128 .f32 ← Prog.lift (.load arg6 (Rect.unit (s := S1x1x128) ![0, 0, 0] S1x1x128.size inb_S1x1x128_S1x1x128_0_0_0).toLoadRect (View.loadsAt_vmem h_S1x1x128))
    let v27 : Vec F S1024x128 .f32 ← Prog.lift (.load arg7 (Rect.unit (s := S1024x128) ![0, 0] S1024x128.size inb_S1024x128_S1024x128_0_0).toLoadRect (View.loadsAt_vmem h_S1024x128))
    Prog.lift (.store arg7 (Rect.unit (s := S1024x128) ![0, 0] S1024x128.size inb_S1024x128_S1024x128_0_0) (k1_pay4 v6 v10 v13 v23) Finset.univ (View.stores_vmem_bits_univ h_S1024x128 rfl) (.inl rfl))
    pure ⟨⟩
  else do
    pure ⟨⟩
  pure ⟨⟩

/-- The first branch is taken at the first point only, -/
theorem first1 : ∀ (l : Fin 5) (r : Fin 10), Scalar.cmpi .ne (Scalar.extui (Scalar.andi (Scalar.cmpi .eq (BitVec.ofNat 32 l.val) 0#32)
    (Scalar.cmpi .eq (BitVec.ofNat 32 r.val) 0#32)) : BitVec 32) 0#32 = 1#1 ↔ l.val = 0 ∧ r.val = 0 := by decide
/-- the second at the layers before the last, -/
theorem second1 (i : grid1.Coords) : k1_cond2 i = 1#1 ↔ (i 0).val < 4 := by
  have h : ∀ n : Fin 5, Scalar.cmpi .ne (Scalar.extui (Scalar.cmpi .slt (BitVec.ofNat 32 n.val) 4#32) : BitVec 32) 0#32 = 1#1 ↔ n.val < 4 := by decide
  exact h (i 0)
/-- and the third at the last layer. -/
theorem third1 (i : grid1.Coords) : k1_cond3 i = 1#1 ↔ (i 0).val = 4 := by
  have h : ∀ n : Fin 5, Scalar.cmpi .ne (Scalar.extui (Scalar.cmpi .eq (BitVec.ofNat 32 n.val) 4#32) : BitVec 32) 0#32 = 1#1 ↔ n.val = 4 := by decide
  exact h (i 0)

/-- The scratch once the first branch is past. -/
def started (i : grid1.Coords) (x : Vec F S10240x128 .bf16) (S : Vec F S2x10240x128 .bf16) : Vec F S2x10240x128 .bf16 :=
  if (i 0).val = 0 ∧ (i 1).val = 0 then put (s := S2x10240x128) ![0, 0, 0] S1x10240x128.size S (k1_pay1 x) else S

/-- The plane of the scratch that the point's layer reads. -/
def plane (i : grid1.Coords) (S : Vec F S2x10240x128 .bf16) : Vec F S1x10240x128 .bf16 :=
  View.ld S (Rect.unit (s := S2x10240x128) (k1_off1 i) S1x10240x128.size (k1_off1_inb i))

/-- The first branch, then whatever follows. -/
theorem body1_start (c : Dev nD) {E : Set ℕ}
    (i : grid1.Coords)
    (arg2 : Memref sig .tc .vmem S10240x128 .bf16) (harg2 : arg2.IsWhole)
    (arg3 : Memref sig .tc .vmem S1024x10240 .fp8e4m3) (harg3 : arg3.IsWhole)
    (arg4 : Memref sig .tc .vmem S1024x1 .f32) (harg4 : arg4.IsWhole)
    (arg5 : Memref sig .tc .vmem S1x128x128 .bf16) (harg5 : arg5.IsWhole)
    (arg6 : Memref sig .tc .vmem S1x1x128 .f32) (harg6 : arg6.IsWhole)
    (arg7 : Memref sig .tc .vmem S1024x128 .f32) (harg7 : arg7.IsWhole)
    (arg8 : Memref sig .tc .vmem S2x10240x128 .bf16) (harg8 : arg8.IsWhole)
    (x : Vec F S10240x128 .bf16) (S : Vec F S2x10240x128 .bf16) (Q : PUnit → sProp 𝕄) :
    iprop(owns (c : Thread nD τ) arg2 fullShare x ∗ owns (c : Thread nD τ) arg8 fullShare S)
      ⊢ iprop(((owns (c : Thread nD τ) arg2 fullShare x ∗ owns (c : Thread nD τ) arg8 fullShare (started i x S)) -∗ wp frame (wpE (defs₀ (F := F)) 𝒱₀ c none) E (stackTail i arg2 harg2 arg3 harg3 arg4 harg4 arg5 harg5 arg6 harg6 arg7 harg7 arg8 harg8) Q)
        -∗ wp frame (wpE (defs₀ (F := F)) 𝒱₀ c none) E (cc1__stack_body i arg2 harg2 arg3 harg3 arg4 harg4 arg5 harg5 arg6 harg6 arg7 harg7 arg8 harg8) Q) := by
  rw [cc1__stack_body_eq_skeleton]
  unfold cc1__stack_body_skel
  dsimp only
  have ht := stackTail.eq_1 (F := F) i arg2 harg2 arg3 harg3 arg4 harg4 arg5 harg5 arg6 harg6 arg7 harg7 arg8 harg8
  dsimp only at ht
  rw [← ht]
  by_cases h : (i 0).val = 0 ∧ (i 1).val = 0
  · rw [dif_pos ((first1 (i 0) (i 1)).mpr h)]
    unfold started
    rw [if_pos h]
    simp only [Prog.lift, Prog.bind_op, Prog.bind_ret, Prog.pure_eq_ret]
    iintro ⟨H2, H8⟩ Hk
    iapply (load_whole c arg2 off2 x) $$ H2
    iintro H2
    iapply (load_part c arg8 _ S) $$ H8
    iintro H8
    iapply (store_put c arg8 (k1_pay1 x) S) $$ H8
    iintro H8
    iapply Hk
    isplitl [H2]; · iexact H2
    iexact H8
  · rw [dif_neg (fun h' => h ((first1 (i 0) (i 1)).mp h'))]
    unfold started
    rw [if_neg h]
    iintro H Hk
    iapply Hk
    iexact H

/-- A layer before the last: the block's next features go to the other plane. -/
theorem tail1_mid (c : Dev nD) {E : Set ℕ}
    (i : grid1.Coords)
    (arg2 : Memref sig .tc .vmem S10240x128 .bf16) (harg2 : arg2.IsWhole)
    (arg3 : Memref sig .tc .vmem S1024x10240 .fp8e4m3) (harg3 : arg3.IsWhole)
    (arg4 : Memref sig .tc .vmem S1024x1 .f32) (harg4 : arg4.IsWhole)
    (arg5 : Memref sig .tc .vmem S1x128x128 .bf16) (harg5 : arg5.IsWhole)
    (arg6 : Memref sig .tc .vmem S1x1x128 .f32) (harg6 : arg6.IsWhole)
    (arg7 : Memref sig .tc .vmem S1024x128 .f32) (harg7 : arg7.IsWhole)
    (arg8 : Memref sig .tc .vmem S2x10240x128 .bf16) (harg8 : arg8.IsWhole)
    (hi : (i 0).val < 4) (a : Vec F S1024x10240 .fp8e4m3) (q : Vec F S1024x1 .f32) (w : Vec F S1x128x128 .bf16) (b : Vec F S1x1x128 .f32)
    (S : Vec F S2x10240x128 .bf16) (Q : PUnit → sProp 𝕄) :
    iprop(owns (c : Thread nD τ) arg3 fullShare a ∗ owns (c : Thread nD τ) arg4 fullShare q ∗ owns (c : Thread nD τ) arg5 fullShare w ∗ owns (c : Thread nD τ) arg6 fullShare b ∗ owns (c : Thread nD τ) arg8 fullShare S)
      ⊢ iprop(((owns (c : Thread nD τ) arg3 fullShare a ∗ owns (c : Thread nD τ) arg4 fullShare q ∗ owns (c : Thread nD τ) arg5 fullShare w ∗ owns (c : Thread nD τ) arg6 fullShare b
        ∗ owns (c : Thread nD τ) arg8 fullShare (put (s := S2x10240x128) (k1_off2 i) S1x1024x128.size S (k1_pay3 i a (plane i S) q b w))) -∗ Q ⟨⟩)
        -∗ wp frame (wpE (defs₀ (F := F)) 𝒱₀ c none) E (stackTail i arg2 harg2 arg3 harg3 arg4 harg4 arg5 harg5 arg6 harg6 arg7 harg7 arg8 harg8) Q) := by
  unfold stackTail
  have h3 : ¬ k1_cond3 i = 1#1 := fun h => by have := (third1 i).mp h; omega
  simp only [dif_pos ((second1 i).mpr hi), dif_neg h3, Prog.lift, Prog.bind_op, Prog.bind_ret, Prog.pure_eq_ret]
  iintro ⟨H3, H4, H5, H6, H8⟩ Hk
  iapply (load_whole c arg3 off2 a) $$ H3
  iintro H3
  iapply (load_part c arg8 _ S) $$ H8
  iintro H8
  iapply (load_whole c arg4 off2 q) $$ H4
  iintro H4
  iapply (load_whole c arg6 off3 b) $$ H6
  iintro H6
  iapply (load_whole c arg5 off3 w) $$ H5
  iintro H5
  iapply (load_part c arg8 _ S) $$ H8
  iintro H8
  iapply (store_put c arg8 _ S) $$ H8
  iintro H8
  rw [wp_ret]; imodintro
  iapply Hk
  isplitl [H3]; · iexact H3
  isplitl [H4]; · iexact H4
  isplitl [H5]; · iexact H5
  isplitl [H6]; · iexact H6
  iexact H8

/-- The last layer: the result block. -/
theorem tail1_last (c : Dev nD) {E : Set ℕ}
    (i : grid1.Coords)
    (arg2 : Memref sig .tc .vmem S10240x128 .bf16) (harg2 : arg2.IsWhole)
    (arg3 : Memref sig .tc .vmem S1024x10240 .fp8e4m3) (harg3 : arg3.IsWhole)
    (arg4 : Memref sig .tc .vmem S1024x1 .f32) (harg4 : arg4.IsWhole)
    (arg5 : Memref sig .tc .vmem S1x128x128 .bf16) (harg5 : arg5.IsWhole)
    (arg6 : Memref sig .tc .vmem S1x1x128 .f32) (harg6 : arg6.IsWhole)
    (arg7 : Memref sig .tc .vmem S1024x128 .f32) (harg7 : arg7.IsWhole)
    (arg8 : Memref sig .tc .vmem S2x10240x128 .bf16) (harg8 : arg8.IsWhole)
    (hi : (i 0).val = 4) (a : Vec F S1024x10240 .fp8e4m3) (q : Vec F S1024x1 .f32) (b : Vec F S1x1x128 .f32) (y : Vec F S1024x128 .f32)
    (S : Vec F S2x10240x128 .bf16) (Q : PUnit → sProp 𝕄) :
    iprop(owns (c : Thread nD τ) arg3 fullShare a ∗ owns (c : Thread nD τ) arg4 fullShare q ∗ owns (c : Thread nD τ) arg6 fullShare b ∗ owns (c : Thread nD τ) arg7 fullShare y ∗ owns (c : Thread nD τ) arg8 fullShare S)
      ⊢ iprop(((owns (c : Thread nD τ) arg3 fullShare a ∗ owns (c : Thread nD τ) arg4 fullShare q ∗ owns (c : Thread nD τ) arg6 fullShare b ∗ owns (c : Thread nD τ) arg7 fullShare (k1_pay4 a (plane i S) q b) ∗ owns (c : Thread nD τ) arg8 fullShare S) -∗ Q ⟨⟩)
        -∗ wp frame (wpE (defs₀ (F := F)) 𝒱₀ c none) E (stackTail i arg2 harg2 arg3 harg3 arg4 harg4 arg5 harg5 arg6 harg6 arg7 harg7 arg8 harg8) Q) := by
  unfold stackTail
  have h2 : ¬ k1_cond2 i = 1#1 := fun h => by have := (second1 i).mp h; omega
  simp only [dif_neg h2, dif_pos ((third1 i).mpr hi), Prog.lift, Prog.bind_op, Prog.bind_ret, Prog.pure_eq_ret]
  iintro ⟨H3, H4, H6, H7, H8⟩ Hk
  iapply (load_whole c arg3 off2 a) $$ H3
  iintro H3
  iapply (load_part c arg8 _ S) $$ H8
  iintro H8
  iapply (load_whole c arg4 off2 q) $$ H4
  iintro H4
  iapply (load_whole c arg6 off3 b) $$ H6
  iintro H6
  iapply (load_whole c arg7 off2 y) $$ H7
  iintro H7
  iapply (store_whole c arg7 off2 _ y) $$ H7
  iintro H7
  rw [wp_ret]; imodintro
  iapply Hk
  isplitl [H3]; · iexact H3
  isplitl [H4]; · iexact H4
  isplitl [H6]; · iexact H6
  isplitl [H7]; · iexact H7
  iexact H8

end Cert.Proof

end
-- ==== Proof.Region1.lean ====
/-
  The second call as a pipeline: what its windows' buffers and its scratch may hold at every grid point, and that its body
  keeps to that.
-/
module

public import proofs.«01_k».proof.Proof.Body1
public import Idealize.ShloMosaic.Lib.Pipeline.FrameBody

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the staging buffer of an input window of the second call holds at a point: the fetched block. -/
def In1 (V : Valuation τ sig (Elt F)) (w : Fin cfg1.W) (t : Fin cfg1.N) (Y : (cfg1.win w).block.Idx → Elt F (cfg1.win w).elt) : Prop :=
  ∃ d, Y = (cfg1.win w).fill (cfg1.grid.coords t) d (((cfg1.win w).blk t).view.read (Elt F) (V (Proc.devRef .tc (Pipeline.arrRef spec1 w))))

/-- What the scratch may hold before a point: anything at first; a point of a layer before the last stores its block's next
    features; a point of the last layer stores nothing. -/
inductive Scr1 (V : Valuation τ sig (Elt F)) : ℕ → Vec F S2x10240x128 .bf16 → Prop
  | start (S) : Scr1 V 0 S
  | mid (t : Fin cfg1.N) (S) (x : Vec F S10240x128 .bf16) (a : Vec F S1024x10240 .fp8e4m3) (q : Vec F S1024x1 .f32) (w : Vec F S1x128x128 .bf16)
      (b : Vec F S1x1x128 .f32) : Scr1 V t.val S → In1 V 0 t x → In1 V 1 t a → In1 V 2 t q → In1 V 3 t w → In1 V 4 t b →
      ((grid1.coords t) 0).val < 4 →
      Scr1 V (t.val + 1) (put (s := S2x10240x128) (k1_off2 (grid1.coords t)) S1x1024x128.size (started (grid1.coords t) x S)
        (k1_pay3 (grid1.coords t) a (plane (grid1.coords t) (started (grid1.coords t) x S)) q b w))
  | last (t : Fin cfg1.N) (S) (x : Vec F S10240x128 .bf16) : Scr1 V t.val S → In1 V 0 t x → ((grid1.coords t) 0).val = 4 →
      Scr1 V (t.val + 1) (started (grid1.coords t) x S)

/-- What the body may leave in a window's staging buffer: an input as it was; the output, at the last layer, the block
    computed from what the inputs and the scratch held. -/
def after1 (V : Valuation τ sig (Elt F)) : (w : Fin cfg1.W) → (t : Fin cfg1.N) → (Y X : (cfg1.win w).block.Idx → Elt F (cfg1.win w).elt) → Prop
  | 0 => fun _ Y X => X = Y
  | 1 => fun _ Y X => X = Y
  | 2 => fun _ Y X => X = Y
  | 3 => fun _ Y X => X = Y
  | 4 => fun _ Y X => X = Y
  | 5 => fun t _ (X : Vec F S1024x128 .f32) => ((grid1.coords t) 0).val = 4 → ∃ (S : Vec F S2x10240x128 .bf16) (x : Vec F S10240x128 .bf16)
      (a : Vec F S1024x10240 .fp8e4m3) (q : Vec F S1024x1 .f32) (b : Vec F S1x1x128 .f32), Scr1 V t.val S ∧ In1 V 0 t x ∧ In1 V 1 t a
        ∧ In1 V 2 t q ∧ In1 V 4 t b ∧ X = k1_pay4 a (plane (grid1.coords t) (started (grid1.coords t) x S)) q b

/-- Before every point the scratch holds something it may hold then. -/
def Φ1 (V : Valuation τ sig (Elt F)) (c : Dev nD) (t : Fin (cfg1.N + 1)) : sProp 𝕄 :=
  iprop(∃ S, ⌜Scr1 V t.val S⌝ ∗ owns (c : Thread nD τ) (Memref.whole cc1_scratch0) fullShare S
    ∗ ((∃ f : Buf (Elt F) ((c : Thread nD τ).loc cc1_scratch0), ((c : Thread nD τ).loc cc1_scratch0) ↦{fullShare} f) -∗ Pipeline.scopedRest spec1 c))

/-- The second call's proof data, from the buffers' contents `V` at its entry. -/
def rd1 (V : Valuation τ sig (Elt F)) (c : Dev nD) : Pipeline.RDat τ (Elt F) Unit ℕ UU ℕ cfg1 c where
  A w := V (Proc.devRef .tc (Pipeline.arrRef spec1 w))
  after := after1 V
  Φ := Φ1 V c
  q _ := fullShare
  owed _ := 0

theorem clip1 (w : Fin cfg1.W) (t t' : Fin cfg1.N) : (cfg1.win w).clip (cfg1.grid.coords t) = (cfg1.win w).clip (cfg1.grid.coords t') := by
  match w with
  | 0 => rfl
  | 1 => rfl
  | 2 => rfl
  | 3 => rfl
  | 4 => rfl
  | 5 => rfl

/-- An input window is found as fetched. -/
theorem finds1 (V : Valuation τ sig (Elt F)) (c : Dev nD) (w : Fin cfg1.W) (hw : (cfg1.win w).isOut = false)
    (hkeep : ∀ t Y X, after1 V w t Y X → X = Y) (t : Fin cfg1.N) (Y) (h : (rd1 V c).Finds w t Y) : In1 V w t Y :=
  (rd1 V c).finds_in_eq_fetched w hw (fun t t' _ => clip1 w t t') hkeep t Y h

/-- The scratch taken out of the scoped buffers, with what puts it back. -/
theorem scratch1 (c : Dev nD) : (Pipeline.scopedRest (Val := Elt F) spec1 c : sProp 𝕄)
    ⊢ iprop(∃ S, owns (c : Thread nD τ) (Memref.whole cc1_scratch0) fullShare S
      ∗ ((∃ f : Buf (Elt F) ((c : Thread nD τ).loc cc1_scratch0), ((c : Thread nD τ).loc cc1_scratch0) ↦{fullShare} f) -∗ Pipeline.scopedRest spec1 c)) := by
  rw [scopedRest1_eq]
  iintro ⟨G0, G1, G2, G3, G4, G5, G6, G7, G8, G9, Ga, Gb, Gc, Gd, ⟨%s, Hs⟩⟩
  iexists s
  isplitl [Hs]
  · rw [owns_whole]; iexact Hs
  iintro Hf
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [Ga]; · iexact Ga
  isplitl [Gb]; · iexact Gb
  isplitl [Gc]; · iexact Gc
  isplitl [Gd]; · iexact Gd
  iexact Hf

/-- A staging buffer handed back at contents its window's relation allows. -/
theorem put_back1 (V : Valuation τ sig (Elt F)) (c : Dev nD) (w : Fin cfg1.W) (t : Fin cfg1.N) (Y X : (cfg1.win w).block.Idx → Elt F (cfg1.win w).elt)
    (h : after1 V w t Y X) : (owns (c : Thread nD τ) ((cfg1.win w).stage (cfg1.slots t w)) fullShare X : sProp 𝕄)
      ⊢ iprop(∃ X, ⌜(rd1 V c).after w t Y X⌝ ∗ owns (c : Thread nD τ) ((cfg1.win w).stage (cfg1.slots t w)) fullShare X) := by
  iintro H
  iexists X
  isplitr; · ipureintro; exact h
  iexact H

theorem Φ1_eq (V : Valuation τ sig (Elt F)) (c : Dev nD) (t : Fin (cfg1.N + 1)) :
    (rd1 V c).Φ t = iprop(∃ S, ⌜Scr1 V t.val S⌝ ∗ owns (c : Thread nD τ) (Memref.whole cc1_scratch0) fullShare S
      ∗ ((∃ f : Buf (Elt F) ((c : Thread nD τ).loc cc1_scratch0), ((c : Thread nD τ).loc cc1_scratch0) ↦{fullShare} f) -∗ Pipeline.scopedRest spec1 c)) := rfl

/-- The body obligation of the second call. -/
theorem body_obligation1 (V : Valuation τ sig (Elt F)) (c : Dev nD) (ι : Unit) :
    (rd1 V c).BodyObligation (defs₀ (F := F)) 𝒱₀ ι Set.univ := by
  intro t Y hY
  have h0 := finds1 V c 0 rfl (fun _ _ _ h => h) t _ (hY 0)
  have h1 := finds1 V c 1 rfl (fun _ _ _ h => h) t _ (hY 1)
  have h2 := finds1 V c 2 rfl (fun _ _ _ h => h) t _ (hY 2)
  have h3 := finds1 V c 3 rfl (fun _ _ _ h => h) t _ (hY 3)
  have h4 := finds1 V c 4 rfl (fun _ _ _ h => h) t _ (hY 4)
  have hb : defs₀ (F := F) .tc cfg1.body (cfg1.bodyArgs t (cfg1.slots t)) = bodyAt1 t := by
    unfold defs₀; rw [Defs.onTc_tc]
  rw [hb, bigSep_W1, bigSep_W1, Φ1_eq, Φ1_eq]
  iintro ⟨⟨%S, %hS, Hs, Hrest⟩, HO, H0, H1, H2, H3, H4, H5⟩
  iapply (body1_start c (grid1.coords t) _ _ _ _ _ _ _ _ _ _ _ _ _ _ (Y 0) S) $$ [H0 Hs]
  · isplitl [H0]; · iexact H0
    iexact Hs
  iintro ⟨H0, Hs⟩
  by_cases hl : ((grid1.coords t) 0).val < 4
  · iapply (tail1_mid c (grid1.coords t) _ _ _ _ _ _ _ _ _ _ _ _ _ _ hl (Y 1) (Y 2) (Y 3) (Y 4) _) $$ [H1 H2 H3 H4 Hs]
    · isplitl [H1]; · iexact H1
      isplitl [H2]; · iexact H2
      isplitl [H3]; · iexact H3
      isplitl [H4]; · iexact H4
      iexact Hs
    iintro ⟨H1, H2, H3, H4, Hs⟩
    isplitl [Hs Hrest]
    · iexists _
      isplitr; · ipureintro; exact Scr1.mid t S (Y 0) (Y 1) (Y 2) (Y 3) (Y 4) hS h0 h1 h2 h3 h4 hl
      isplitl [Hs]; · iexact Hs
      iexact Hrest
    isplitl [HO]; · iexact HO
    isplitl [H0]; · iapply (put_back1 V c 0 t _ _ rfl) $$ H0
    isplitl [H1]; · iapply (put_back1 V c 1 t _ _ rfl) $$ H1
    isplitl [H2]; · iapply (put_back1 V c 2 t _ _ rfl) $$ H2
    isplitl [H3]; · iapply (put_back1 V c 3 t _ _ rfl) $$ H3
    isplitl [H4]; · iapply (put_back1 V c 4 t _ _ rfl) $$ H4
    iapply (put_back1 V c 5 t _ _ (fun h => absurd hl (by rw [h]; decide))) $$ H5
  · have hl4 : ((grid1.coords t) 0).val = 4 := by
      have : ((grid1.coords t) 0).val < 5 := ((grid1.coords t) 0).isLt
      omega
    iapply (tail1_last c (grid1.coords t) _ _ _ _ _ _ _ _ _ _ _ _ _ _ hl4 (Y 1) (Y 2) (Y 4) (Y 5) _) $$ [H1 H2 H4 H5 Hs]
    · isplitl [H1]; · iexact H1
      isplitl [H2]; · iexact H2
      isplitl [H4]; · iexact H4
      isplitl [H5]; · iexact H5
      iexact Hs
    iintro ⟨H1, H2, H4, H5, Hs⟩
    isplitl [Hs Hrest]
    · iexists _
      isplitr; · ipureintro; exact Scr1.last t S (Y 0) hS h0 hl4
      isplitl [Hs]; · iexact Hs
      iexact Hrest
    isplitl [HO]; · iexact HO
    isplitl [H0]; · iapply (put_back1 V c 0 t _ _ rfl) $$ H0
    isplitl [H1]; · iapply (put_back1 V c 1 t _ _ rfl) $$ H1
    isplitl [H2]; · iapply (put_back1 V c 2 t _ _ rfl) $$ H2
    isplitl [H3]; · iapply (put_back1 V c 3 t _ _ rfl) $$ H3
    isplitl [H4]; · iapply (put_back1 V c 4 t _ _ rfl) $$ H4
    iapply (put_back1 V c 5 t _ _ (fun _ => ⟨S, Y 0, Y 1, Y 2, Y 4, hS, h0, h1, h2, h4, rfl⟩)) $$ H5

end Cert.Proof

end
-- ==== Proof.Segs.lean ====
/-
  The steps of the program — a stretch of host operations, a call — as segments between states "the core's buffers hold
  contents of which something is known".
-/
module

public import proofs.«01_k».proof.Proof.Exit
public import proofs.«01_k».proof.Proof.Region0
public import proofs.«01_k».proof.Proof.Region1

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Both calls' proof data from the buffers' contents `V` at a call's entry. -/
def rds (V : Valuation τ sig (Elt F)) : (p : Fin 2) → (c : Dev nD) → Pipeline.RDat τ (Elt F) Unit ℕ UU ℕ (Pipeline.pin (pcfgs (F := F)) adm p) c
  | 0 => rd0 V
  | 1 => rd1 V

theorem owed_zero (V : Valuation τ sig (Elt F)) (c : Dev nD) : ∀ p t, (rds V p c).owed t = 0
  | 0, _ => rfl
  | 1, _ => rfl

theorem recorded_all (V : Valuation τ sig (Elt F)) (c : Dev nD) : ∀ p t x, x ∈ (rds V p c).recorded t
  | 0, _, _ => trivial
  | 1, _, _ => trivial

/-- The second embedding of the rounds' ghost state: the one the calls run on. -/
abbrev EP : Emb (URounds (GSem nD τ sig) Unit) (MT nD τ sig Unit (Elt F) ℕ UU ℕ) := embR

/-- The levels: no wait is bounded. -/
abbrev L₀ : GSem nD τ sig → Finset Unit := fun _ => ∅
abbrev lv₀ : GSem nD τ sig → Unit → ℕ := fun _ _ => 0

/-- The thread owes nothing. -/
abbrev idle (c : Dev nD) : sProp 𝕄 := iprop(∃ W, owes (c : Thread nD τ) (0 : CellTallies nD τ sig Unit) W)

/-- The state between two steps: the buffers hold contents that `P` allows. -/
def St (P : Dev nD → Valuation τ sig (Elt F) → Prop) (c : Dev nD) : sProp 𝕄 :=
  iprop(∃ V, ⌜P c V⌝ ∗ StableHlo.held (c : Thread nD τ) (Pipeline.ucRefs τ sig) V ∗ idle c)

/-- What is known after host operations, -/
def afterOps (ops : List (HloOp τ sig (Elt F))) (P : Dev nD → Valuation τ sig (Elt F) → Prop) : Dev nD → Valuation τ sig (Elt F) → Prop :=
  fun c V' => ∃ V, P c V ∧ V' = StableHlo.after ops V
/-- and after a call. -/
def afterCall (p : Fin 2) (P : Dev nD → Valuation τ sig (Elt F) → Prop) : Dev nD → Valuation τ sig (Elt F) → Prop :=
  fun c V' => ∃ V, P c V ∧ Leaves p (rds V p c) V V'

theorem invariant_in (V : Valuation τ sig (Elt F)) (c : Dev nD) :
    ∀ p : Fin 2, (Pipeline.scopedRest (Pipeline.pin (pcfgs (F := F)) adm p).spec c : sProp 𝕄) ⊢ (rds V p c).Φ 0
  | 0 => by
    have e : (rds V 0 c).Φ 0 = Pipeline.scopedRest spec0 c := Φ0_first V c 0 rfl
    rw [e]; exact .rfl
  | 1 => by
    have e : (rds V 1 c).Φ 0 = _ := Φ1_eq V c 0
    rw [e]
    iintro H
    ihave H := (scratch1 c) $$ H
    icases H with ⟨%S, Hs, Hr⟩
    iexists S
    isplitr; · ipureintro; exact Scr1.start S
    isplitl [Hs]; · iexact Hs
    iexact Hr

theorem owns_some (c : Dev nD) (b : Ref sig .tc) (S : b.ty.shape.Idx → Elt F b.ty.elt) :
    (owns (c : Thread nD τ) (Memref.whole b) fullShare S : sProp 𝕄)
      ⊢ iprop(∃ f : Buf (Elt F) ((c : Thread nD τ).loc b), ((c : Thread nD τ).loc b) ↦{fullShare} f) := by
  rw [owns_whole]
  iintro H
  iexists S; iexact H

theorem invariant_out (V : Valuation τ sig (Elt F)) (c : Dev nD) :
    ∀ p : Fin 2, (rds V p c).Φ (Fin.last _) ⊢ (Pipeline.scopedRest (Pipeline.pin (pcfgs (F := F)) adm p).spec c : sProp 𝕄)
  | 0 => by
    have e : (rds V 0 c).Φ (Fin.last _) = _ := Φ0_later V c (Fin.last _) (by decide)
    rw [e]
    iintro ⟨%S, %hS, Hs, Hr⟩
    iapply Hr
    iapply (owns_some c _ S) $$ Hs
  | 1 => by
    have e : (rds V 1 c).Φ (Fin.last _) = _ := Φ1_eq V c (Fin.last _)
    rw [e]
    iintro ⟨%S, %hS, Hs, Hr⟩
    iapply Hr
    iapply (owns_some c _ S) $$ Hs

theorem body_obligations (V : Valuation τ sig (Elt F)) (c : Dev nD) :
    ∀ p : Fin 2, (rds V p c).BodyObligation (defs₀ (F := F)) 𝒱₀ () Set.univ
  | 0 => body_obligation0 V c ()
  | 1 => body_obligation1 V c ()

theorem share_full (V : Valuation τ sig (Elt F)) (c : Dev nD) : ∀ (p : Fin 2) w, (rds V p c).share w = fullShare
  | 0, _ => by unfold Pipeline.RDat.share; exact ite_self _
  | 1, _ => by unfold Pipeline.RDat.share; exact ite_self _

theorem entry_contents (V : Valuation τ sig (Elt F)) (c : Dev nD) :
    ∀ (p : Fin 2) w, (rds V p c).A w = V (Proc.devRef .tc (Pipeline.arrRef (Pipeline.pin (pcfgs (F := F)) adm p).spec w))
  | 0, _ => rfl
  | 1, _ => rfl

set_option backward.isDefEq.respectTransparency.types false in
/-- A call entered from the buffers' contents `V`: it leaves them at contents its write-backs allow. -/
def region (p : Fin 2) (kit : Pipeline.LaunchFacts (nD := nD) (τ := τ) cfgs p) (V : Valuation τ sig (Elt F)) :
    Pipeline.RDat.RegionSeg (pcfgs (F := F)) adm (rds V) () (defs₀ (F := F)) 𝒱₀ L₀ lv₀ p where
  win := kit.win.to₀
  block_pos := kit.block_pos
  stage_whole := kit.stage_whole
  K := PEmpty
  osem := fun k => k.elim
  ho := Pipeline.OwnSemFacts.none _
  hbody c := body_obligations V c p
  hwaits := Pipeline.RDat.hwaits_of_owed_zero _ _ _ _ L₀ lv₀ p fun c t => owed_zero V c p t
  pre c := iprop(StableHlo.held (c : Thread nD τ) (Pipeline.ucRefs τ sig) V ∗ idle c)
  post c := iprop(∃ V', ⌜Leaves p (rds V p c) V V'⌝ ∗ StableHlo.held (c : Thread nD τ) (Pipeline.ucRefs τ sig) V' ∗ idle c)
  X _ := iprop(emp)
  Y _ := iprop(emp)
  Z c := Pipeline.unscopedRest (Pipeline.pin (pcfgs (F := F)) adm p).spec c (fun b => V (Proc.devRef .tc b))
  hentry c := by
    rw [Pipeline.ownSems0_none, ← Pipeline.unscopedBufs_held (Ix := Unit) (Name := ℕ) (U := UU) (Lvl := ℕ) c V]
    iintro ⟨⟨Hh, HO⟩, -, -⟩
    ihave Hh := (Pipeline.RDat.arrays_of_unscopedBufs (pcfgs (F := F)) adm (rds V) kit.win kit.arr_whole c (share_full V c p)
      (fun b => V (Proc.devRef .tc b)) (entry_contents V c p)) $$ Hh
    icases Hh with ⟨Ha, Hr⟩
    imodintro
    isplitl [Ha]; · iexact Ha
    isplitr
    · unfold Pipeline.prefHeld
      rw [show (Finset.univ : Finset (Fin 0)) = ∅ from rfl, BI.bigSep_empty]; iempintro
    isplitl [HO]
    · unfold Pipeline.RDat.owesAt Pipeline.owesWithin
      rw [owed_zero V c p]
      icases HO with ⟨%W, HO⟩; iexists W
      isplitr; · ipureintro; exact fun x _ => Or.inl (recorded_all V c p 0 x)
      iexact HO
    isplitr; · iempintro
    iexact Hr
  hin c := by
    iintro ⟨-, -, H⟩
    iapply (invariant_in V c p) $$ H
  hout c := by
    rw [Pipeline.ownSems0_none]
    iintro H
    ihave H := (invariant_out V c p) $$ H
    isplitr; · iempintro
    isplitr; · iempintro
    iexact H
  hexit c := by
    iintro ⟨Ha, HO, -, Hr⟩
    ihave H := (unscoped_of_arraysAt p kit.win kit.arr_whole c (rds V) (share_full V c p) V) $$ [Ha Hr]
    · isplitl [Ha]; · iexact Ha
      iexact Hr
    icases H with ⟨%V', %hV', Hh⟩
    imodintro
    iexists V'
    isplitr; · ipureintro; exact hV'
    rw [← Pipeline.unscopedBufs_held (Ix := Unit) (Name := ℕ) (U := UU) (Lvl := ℕ) c V']
    isplitl [Hh]; · iexact Hh
    unfold Pipeline.RDat.owesAt Pipeline.owesWithin
    rw [owed_zero V c p]
    icases HO with ⟨%W, -, HO⟩; iexists W; iexact HO

theorem region_pre (p : Fin 2) (kit : Pipeline.LaunchFacts (nD := nD) (τ := τ) cfgs p) (V : Valuation τ sig (Elt F)) (c : Dev nD) :
    (region p kit V).pre c = iprop(StableHlo.held (c : Thread nD τ) (Pipeline.ucRefs τ sig) V ∗ idle c) := rfl

theorem region_post (p : Fin 2) (kit : Pipeline.LaunchFacts (nD := nD) (τ := τ) cfgs p) (V : Valuation τ sig (Elt F)) (c : Dev nD) :
    (region p kit V).post c
      = iprop(∃ V', ⌜Leaves p (rds V p c) V V'⌝ ∗ StableHlo.held (c : Thread nD τ) (Pipeline.ucRefs τ sig) V' ∗ idle c) := rfl

/-- A call's share of the ghost state. -/
abbrev ghost (p : Fin 2) (c : Dev nD) : sProp 𝕄 :=
  iprop(Pipeline.cellsGhost (Pipeline.pin (pcfgs (F := F)) adm) EP p c ∗ Pipeline.toksInit (Pipeline.pin (pcfgs (F := F)) adm) EP p c)

set_option backward.isDefEq.respectTransparency.types false in
/-- A call as a segment; `R` rides along. -/
def callSeg (p : Fin 2) (kit : Pipeline.LaunchFacts (nD := nD) (τ := τ) cfgs p) (P : Dev nD → Valuation τ sig (Elt F) → Prop) (R : Dev nD → sProp 𝕄) :
    Pipeline.HostSeg (Ix := Unit) (Name := ℕ) (U := UU) (Lvl := ℕ) (pcfgs (F := F)) (defs₀ (F := F)) 𝒱₀ L₀ lv₀ where
  prog := Prog.lift (.customCall (Pipeline.entry p) ())
  pre c := iprop(St P c ∗ ghost p c ∗ R c)
  post c := iprop(St (afterCall p P) c ∗ R c)
  run c {β} k K := by
    unfold St
    iintro ⟨Hk, Hb, ⟨⟨%V, %hV, Hh, HO⟩, ⟨Hg, Ht⟩, HR⟩, HL⟩
    iapply (Pipeline.RDat.RegionSeg.wp (pcfgs (F := F)) adm (rds V) () cellOf_inj EP (defs₀ (F := F)) 𝒱₀ L₀ lv₀ (region p kit V) c none
      (fun u hu => absurd hu (by simp)) k K)
    isplitl [Hk HR]
    · iintro ⟨Hb, Hp⟩
      ihave Hp := (Entails.of_eq (region_post p kit V c)) $$ Hp
      icases Hp with ⟨%V', %hV', Hh, HO⟩
      iapply Hk
      isplitl [Hb]; · iexact Hb
      isplitl [Hh HO]
      · iexists V'
        isplitr; · ipureintro; exact ⟨V, hV, hV'⟩
        isplitl [Hh]; · iexact Hh
        iexact HO
      iexact HR
    isplitl [Hb]; · iexact Hb
    isplitl [Hh HO]
    · iapply (Entails.of_eq (region_pre p kit V c).symm)
      isplitl [Hh]; · iexact Hh
      iexact HO
    isplitl [HL]; · iexact HL
    isplitl [Hg]; · iexact Hg
    iexact Ht

set_option backward.isDefEq.respectTransparency.types false in
/-- Host operations as a segment; `R` rides along. -/
def opsSeg (ops : List (HloOp τ sig (Elt F))) (hS : ∀ op ∈ ops, op.bufs ⊆ Pipeline.ucRefs τ sig) (hf : ∀ op ∈ ops, op.fresh = ∅)
    (P : Dev nD → Valuation τ sig (Elt F) → Prop) (R : Dev nD → sProp 𝕄) :
    Pipeline.HostSeg (Ix := Unit) (Name := ℕ) (U := UU) (Lvl := ℕ) (pcfgs (F := F)) (defs₀ (F := F)) 𝒱₀ L₀ lv₀ where
  prog := StableHlo.seq ops
  pre c := iprop(St P c ∗ R c)
  post c := iprop(St (afterOps ops P) c ∗ R c)
  run c {β} k K := by
    unfold St
    iintro ⟨Hk, Hb, ⟨⟨%V, %hV, Hh, HO⟩, HR⟩, -⟩
    iapply (StableHlo.wp_seq (defs := Pipeline.defs (pcfgs (F := F)) (defs₀ (F := F))) (Variants.lift 𝒱₀) none Set.univ c (Pipeline.ucRefs τ sig) k (K := K) ops hS hf V) $$ [Hb Hh]
    · isplitl [Hb] <;> iassumption
    iintro ⟨Hb, Hh⟩
    iapply Hk
    isplitl [Hb]; · iexact Hb
    isplitl [Hh HO]
    · iexists StableHlo.after ops V
      isplitr; · ipureintro; exact ⟨V, hV, rfl⟩
      isplitl [Hh]; · iexact Hh
      iexact HO
    iexact HR

end Cert.Proof

end
-- ==== Proof.Run.lean ====
/-
  The program's run: every execution ends with every semaphore at zero and the buffers at contents reached by the host
  operations and the two calls from the launch contents.
-/
module

public import proofs.«01_k».proof.Proof.Segs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The buffers' contents before each step, from the launch contents `m`. -/
def P0 : Dev nD → Valuation τ sig (Elt F) → Prop := fun c V => V = V0 m c
def P1 : Dev nD → Valuation τ sig (Elt F) → Prop := afterOps hostOps0 (P0 m)
def P2 : Dev nD → Valuation τ sig (Elt F) → Prop := afterCall 0 (P1 m)
def P3 : Dev nD → Valuation τ sig (Elt F) → Prop := afterOps hostOps1 (P2 m)
def P4 : Dev nD → Valuation τ sig (Elt F) → Prop := afterCall 1 (P3 m)
def P5 : Dev nD → Valuation τ sig (Elt F) → Prop := afterOps hostOps2 (P4 m)

/-- The five steps. -/
def steps (c : Dev nD) : List (Pipeline.RDat.Seg (pcfgs (F := F)) adm (rds (V0 m c)) () (defs₀ (F := F)) 𝒱₀ L₀ lv₀) :=
  [.host (opsSeg hostOps0 (fun op h => Pipeline.sub_ucRefs op ((List.forall_iff_forall_mem.mp hostOps0_sub) op h))
      (fun op h => (List.forall_iff_forall_mem.mp hostOps0_fresh) op h) (P0 m) (fun c => iprop(ghost 0 c ∗ ghost 1 c ∗ emp))),
   .host (callSeg 0 launch0 (P1 m) (fun c => iprop(ghost 1 c ∗ emp))),
   .host (opsSeg hostOps1 (fun op h => Pipeline.sub_ucRefs op ((List.forall_iff_forall_mem.mp hostOps1_sub) op h))
      (fun op h => (List.forall_iff_forall_mem.mp hostOps1_fresh) op h) (P2 m) (fun c => iprop(ghost 1 c ∗ emp))),
   .host (callSeg 1 launch1 (P3 m) (fun _ => iprop(emp))),
   .host (opsSeg hostOps2 (fun op h => Pipeline.sub_ucRefs op ((List.forall_iff_forall_mem.mp hostOps2_sub) op h))
      (fun op h => (List.forall_iff_forall_mem.mp hostOps2_fresh) op h) (P4 m) (fun _ => iprop(emp)))]

/-- The calls' ghost state, from the launch's second element. -/
theorem ghost_launch :
    BI.own ((EP : Emb (URounds (GSem nD τ sig) Unit) 𝕄) (initOf (Pipeline.cells cfgs (nD := nD) cellOf_inj) (Pipeline.launchToks cfgs cellOf_inj)))
      ⊢ (iprop(|==> bigSep Finset.univ fun c : Dev nD => iprop(ghost 0 c ∗ ghost 1 c)) : sProp 𝕄) := by
  iintro H
  imod (Pipeline.fund_ghost (Pipeline.pin (pcfgs (F := F)) adm) EP cellOf_inj) $$ H with ⟨Hg, Ht⟩
  imodintro
  have e : (bigSep Finset.univ fun c : Dev nD => (iprop(ghost (F := F) 0 c ∗ ghost 1 c) : sProp 𝕄))
      = (iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) : sProp 𝕄) := by
    rw [← bigSep_sep']
    refine bigSep_congr fun c _ => ?_
    rw [← bigSep_sep']
    exact (bigSep_univ_eq_bigSepL (M := 𝕄) [(0 : Fin 2), (1 : Fin 2)] (by decide) (by decide) fun p => ghost p c).symm
  rw [e]
  isplitl [Hg]; · iexact Hg
  iexact Ht

/-- What the launch deals a core. -/
def dealt (ρ : Dev nD → PrngReg) (c : Dev nD) : sProp 𝕄 :=
  iprop(unscopedBufs c (fun b => m ((c.tc : Thread nD τ).loc b)) ∗ unscopedSems0 c
    ∗ owes (c.tc : Thread nD τ) (0 : CellTallies nD τ sig Unit) ∅ ∗ Pipeline.launchCred (fun _ => 0) c ∗ prngReg c (ρ c) ∗ ghost 0 c ∗ ghost 1 c)

/-- What the launch deals a core is the first state. -/
theorem launch_state (ρ : Dev nD → PrngReg) (c : Dev nD) :
    dealt m ρ c ⊢ iprop(St (P0 m) c ∗ ghost 0 c ∗ ghost 1 c ∗ emp) := by
  unfold St dealt
  iintro ⟨Hh, -, HO, -, -, H0, H1⟩
  isplitl [Hh HO]
  · iexists (V0 m c)
    isplitr; · ipureintro; rfl
    rw [← Pipeline.unscopedBufs_held (Ix := Unit) (Name := ℕ) (U := UU) (Lvl := ℕ) c (V0 m c)]
    isplitl [Hh]; · iexact Hh
    iexists _; iexact HO
  isplitl [H0]; · iexact H0
  isplitl [H1]; · iexact H1
  iempintro

set_option backward.isDefEq.respectTransparency.types false in
/-- Every execution ends, the semaphores at zero and the buffers at contents the steps allow. -/
theorem run (ρ : Dev nD → PrngReg) :
    θ_run defs (onTc (τ := τ) (main (F := F))) ⟨m, fun _ => 0, ρ⟩ (fun r =>
      (∀ c : Dev nD, ∃ V, P5 m c V ∧ ∀ b ∈ Pipeline.ucRefs τ sig, r.2.mem ((c : Thread nD τ).1, b) = V b) ∧ r.2.sem = fun _ => 0) := by
  refine Pipeline.RDat.θ_run_regions_kit_dev_sems (pcfgs (F := F)) adm (rds (V0 m (default : Dev nD))) () cellOf_inj (embL : Emb (URounds (GSem nD τ sig) Unit) 𝕄) defs₀ 𝒱₀ L₀ lv₀ m ρ main
    (fun _ => steps m (default : Dev nD))
    (fun c Q => by
      rewrite [main_chain c, Pipeline.RDat.Seg.run_eq_chain,
        show (steps m default).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => List.nodup_nil) (fun _ => 0) (fun _ _ => rfl) (fun c => iprop(ghost 0 c ∗ ghost 1 c))
    (initOf (Pipeline.cells cfgs cellOf_inj) (Pipeline.launchToks cfgs cellOf_inj), initOf (Pipeline.cells cfgs cellOf_inj) (Pipeline.launchToks cfgs cellOf_inj)) ?_
    (T₀ := fun c => iprop(St (P0 m) c ∗ ghost 0 c ∗ ghost 1 c ∗ emp))
    (Tₙ := fun c => iprop(∃ V, ⌜P5 m c V⌝ ∗ StableHlo.held (c : Thread nD τ) (Pipeline.ucRefs τ sig) V))
    (hch := fun c => ⟨.rfl, .rfl, .rfl, .rfl, .rfl, ?_⟩)
    (hinit := ?_) (QY := fun c s => ∃ V, P5 m c V ∧ ∀ b ∈ Pipeline.ucRefs τ sig, s.mem ((c : Thread nD τ).1, b) = V b)
    (hfin := fun c s' => ?_) (hQ := fun _ h hz => ⟨h, funext fun g => hz g (.inr (regions_no_unscoped g.2))⟩)
  · iintro H
    ihave H := (ownU_pair _ _) $$ H
    icases H with ⟨Ha, Hb⟩
    imod ghost_launch $$ Hb with Hg
    imodintro
    isplitl [Ha]; · iexact Ha
    iexact Hg
  · show iprop(St (P5 m) c ∗ emp) ⊢ _
    unfold St
    iintro ⟨⟨%V, %hV, Hh, HO⟩, -⟩
    isplitl [Hh]
    · iexists V
      isplitr; · ipureintro; exact hV
      iexact Hh
    iexact HO
  · have hs : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ ghost 0 c ∗ ghost 1 c) : sProp 𝕄)) ⊢ bigSep Finset.univ fun c : Dev nD => (iprop(St (P0 m) c ∗ ghost 0 c ∗ ghost 1 c ∗ emp) : sProp 𝕄) :=
      bigSep_mono fun c _ => launch_state m ρ c
    iintro ⟨H, -⟩
    imodintro
    iapply hs $$ H
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    iexact HSI

end Cert.Proof

end
-- ==== Proof.Frames.lean ====
/-
  The frame of the idealised program: whatever the arithmetic, its arguments end as launched and its semaphores at zero.
-/
module

public import proofs.«01_k».proof.Proof.Run

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program's arguments. -/
def argRefs : List (Ref sig .tc) := [main_arg0, main_arg1, main_arg2, main_arg3, main_arg4, main_arg5, main_arg6, main_arg7, main_arg8, main_arg9, main_arg10, main_arg11, main_arg12, main_arg13]

/-- A call leaves a buffer that is the array of no output window as it was. -/
theorem kept_by_call (p : Fin 2) (c : Dev nD) (V V' : Valuation τ sig (Elt F)) (h : Leaves p (rds V p c) V V') (hA : ∀ w, (rds V p c).A w = V (Proc.devRef .tc (Pipeline.arrRef (cfgs p).spec w)))
    (r : Ref sig .tc) (hr : ∀ w, Pipeline.arrRef (cfgs p).spec w = r → ((cfgs p).win w).isOut = false) :
    V' (Proc.devRef .tc r) = V (Proc.devRef .tc r) := by
  by_cases hm : r ∈ Finset.univ.image (Pipeline.arrRef (cfgs p).spec)
  · obtain ⟨w, -, rfl⟩ := Finset.mem_image.mp hm
    have h1 := h.1 w
    rw [Pipeline.RDat.ArrAt_in (rds V p c) w (hr w rfl) (cfgs p).N] at h1
    exact h1.trans (hA w)
  · exact h.2 r hm

theorem args_unwritten0 : ∀ r ∈ argRefs, r ∉ hostOps0_W := by decide
theorem args_unwritten1 : ∀ r ∈ argRefs, r ∉ hostOps1_W := by decide
theorem args_unwritten2 : ∀ r ∈ argRefs, r ∉ hostOps2_W := by decide
theorem args_no_output0 : ∀ r ∈ argRefs, ∀ w : Fin 9, Pipeline.arrRef spec0 w = r → (cfg0.win w).isOut = false := by decide
theorem args_no_output1 : ∀ r ∈ argRefs, ∀ w : Fin 6, Pipeline.arrRef spec1 w = r → (cfg1.win w).isOut = false := by decide

/-- Every argument ends as launched. -/
theorem args_kept (c : Dev nD) (V : Valuation τ sig (Elt F)) (h : P5 m c V) (r : Ref sig .tc) (hr : r ∈ argRefs) : V (Proc.devRef .tc r) = m ((c.tc : Thread nD τ).loc r) := by
  obtain ⟨V4, ⟨V3, ⟨V2, ⟨V1, ⟨V0', rfl, rfl⟩, h2⟩, rfl⟩, h4⟩, rfl⟩ := h
  rw [StableHlo.after_of_writes_sub hostOps2 _ hostOps2_writes (args_unwritten2 r hr),
    kept_by_call 1 c _ V4 h4 (fun _ => rfl) r (args_no_output1 r hr),
    StableHlo.after_of_writes_sub hostOps1 _ hostOps1_writes (args_unwritten1 r hr),
    kept_by_call 0 c _ V2 h2 (fun _ => rfl) r (args_no_output0 r hr),
    StableHlo.after_of_writes_sub hostOps0 _ hostOps0_writes (args_unwritten0 r hr)]

theorem args_unscoped (r : Ref sig .tc) (hr : r ∈ argRefs) : (Proc.devRef .tc r : DevRef τ sig) ∈ Pipeline.ucRefs τ sig :=
  Finset.mem_filter.mpr ⟨StableHlo.devRef_mem_tcRefs r, by revert r; decide⟩

/-- The frame: every execution ends, the arguments as launched and the semaphores at zero. -/
theorem frame : ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0) := by
  intro m g
  refine θ_run_mono (run m g) fun r hr => ⟨fun c => ?_, hr.2⟩
  obtain ⟨V, hV, hm⟩ := hr.1 c
  have k : ∀ b ∈ argRefs, r.2.mem ((c.tc : Thread nD τ).loc b) = m ((c.tc : Thread nD τ).loc b) := fun b hb =>
    (hm _ (args_unscoped b hb)).trans (args_kept m c V hV b hb)
  exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide)⟩

end Cert.Proof

end
-- ==== Proof.FrameBits.lean ====
/-
  The frame of the program as printed. Nothing was replaced on the way to the idealised program, so the two frames are one
  statement once both are read at the machine's words.
-/
module

public import proofs.«01_k».proof.Proof.Frames
public import proofs.«01_k».proof.Proof.Gen.Kernel.Regions
public import proofs.«01_k».proof.Defs

@[expose] public section

noncomputable section

namespace Cert.Proof

open Idealize Idealize.ShloMosaic Idealize.ShloMosaic.TcCoe Idealize.SL.Sem

/-- The two frames are one statement. -/
theorem frame_bits_eq : (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0))
   = (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)) := by chain_rfl

/-- The frame of the program as printed. -/
theorem frame_bits : ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0) :=
  frame_bits_eq.mpr (frame (F := Bits))

end Cert.Proof

end
-- ==== Proof.Pay.lean ====
/-
  What the two calls store, read at one element: the two bodies' payloads over the extended reals.
-/
module

public import proofs.«01_k».proof.Proof.Gen.KernelIdeal.Skeleton
public import Idealize.ShloMosaic.Lib.Pointwise
public import Idealize.ShloMosaic.Lib.Tactic.WordOmega

@[expose] public section

set_option maxRecDepth 16384

noncomputable section

namespace Cert.Proof

open Cert.KernelIdeal Cert.KernelIdeal.Gen
open Idealize.ShloMosaic Idealize.ShloMosaic.TcCoe

/-- The row a block's point works on, as a word. -/
theorem row_word (n y : ℕ) (h0 : 1 ≤ n) (h1 : n ≤ 32) (hy : y < 320) :
    IntOp.addi (Scalar.muli (Scalar.subi (BitVec.ofNat 32 n) 1#32) 320#32) (BitVec.ofNat 32 y) = BitVec.ofNat 32 (320 * (n - 1) + y) := by
  simp only [IntOp.addi, Scalar.muli, Scalar.subi, IntOp.muli, IntOp.subi]
  apply BitVec.eq_of_toNat_eq
  simp only [BitVec.toNat_add, BitVec.toNat_mul, BitVec.toNat_sub, BitVec.toNat_ofNat]
  omega

/-- A signed comparison of a small word with 10000. -/
theorem below_word (n : ℕ) (h : n < 20000) : IntOp.cmpi CmpIPredicate.slt (BitVec.ofNat 32 n) 10000#32 = if n < 10000 then 1#1 else 0#1 := by
  word_omega

/-- The masked block of the adjacency matrix: zero past row or column 10000. -/
theorem masked_apply (n : ℕ) (h0 : 1 ≤ n) (h1 : n ≤ 32) (a : FVec Ideal S320x10240 .f32) (y : Fin 320) (k : Fin 10240) :
    k0_pay3 (F := Ideal) (BitVec.ofNat 32 n) a (ix2 y k) = if 320 * (n - 1) + y.val < 10000 ∧ k.val < 10000 then a (ix2 y k) else 0 := by
  pointwise [k0_pay3]
  rw [row_word n y h0 h1 y.isLt, below_word _ (by omega), below_word _ (by omega)]
  split_ifs <;> first | rfl | omega

/-- The projected input features: zero past row 10000. -/
theorem features_apply (x : FVec Ideal S10240x128 .f32) (w : FVec Ideal S128x128 .bf16) (p : Fin 10240) (q : Fin 128) :
    k0_pay1 (F := Ideal) x w (ix2 p q) = if p.val < 10000 then ∑ j : Fin 128, x (ix2 p j) * w (ix2 j q) else 0 := by
  pointwise [k0_pay1]
  rw [show IntOp.addi (0#32) (BitVec.ofNat 32 p.val) = BitVec.ofNat 32 p.val from BitVec.zero_add _, below_word _ (by omega)]
  split_ifs <;> rfl

theorem scaled_apply (i : BitVec 32) (a : FVec Ideal S320x10240 .f32) (y : Fin 320) (k : Fin 10240) :
    k0_pay4 (F := Ideal) i a (ix2 y k) = k0_pay3 (F := Ideal) i a (ix2 y k) * ((8192 : ℝ) : EReal) := by
  pointwise [k0_pay4]
  congr 1
  simp [Ideal.ofBits, Ideal.ieee, -EReal.coe_mul]; norm_num

theorem inverse_apply (i : BitVec 32) (a : FVec Ideal S320x10240 .f32) (u : FVec Ideal S10240x128 .bf16) (y : Fin 320) (z : Fin 1) :
    k0_pay5 (F := Ideal) i a u (ix2 y z) = if 0 < ∑ k : Fin 10240, k0_pay4 (F := Ideal) i a (ix2 y k) * u (ix2 k 0)
      then Ideal.div 1 (∑ k : Fin 10240, k0_pay4 (F := Ideal) i a (ix2 y k) * u (ix2 k 0)) else 0 := by
  pointwise [k0_pay5]

theorem product_apply (i : BitVec 32) (a : FVec Ideal S320x10240 .f32) (S : FVec Ideal S10240x128 .bf16) (y : Fin 320) (q : Fin 128) :
    k0_pay6 (F := Ideal) i a S (ix2 y q) = ∑ k : Fin 10240, k0_pay3 (F := Ideal) i a (ix2 y k) * S (ix2 k q) := by
  pointwise [k0_pay6]

theorem next_apply (n : ℕ) (h0 : 1 ≤ n) (h1 : n ≤ 32) (v : FVec Ideal S320x128 .f32) (b : FVec Ideal S1x128 .f32) (w : FVec Ideal S128x128 .bf16) (y : Fin 320) (q : Fin 128) :
    k0_pay2 (F := Ideal) (Scalar.subi (BitVec.ofNat 32 n) 1#32) v (k0_pay7 (F := Ideal) b) w (ix2 y q)
      = if 320 * (n - 1) + y.val < 10000 then ∑ j : Fin 128, max (v (ix2 y j) + b (ix2 0 j)) 0 * w (ix2 j q) else 0 := by
  pointwise [k0_pay2, k0_pay7]
  rw [row_word n y h0 h1 y.isLt, below_word _ (by omega)]
  split_ifs <;> rfl

theorem loaded_apply (x : FVec Ideal S10240x128 .bf16) (z : Fin 1) (p : Fin 10240) (q : Fin 128) :
    k1_pay1 (F := Ideal) x (ix3 z p q) = x (ix2 p q) := by
  pointwise [k1_pay1]

theorem propagated_apply (a : FVec Ideal S1024x10240 .fp8e4m3) (S : FVec Ideal S1x10240x128 .bf16) (c : FVec Ideal S1024x1 .f32) (y : Fin 1024) (q : Fin 128) :
    k1_pay2 (F := Ideal) a S c (ix2 y q) = (∑ k : Fin 10240, a (ix2 y k) * S (ix3 0 k q)) * c (ix2 y 0) := by
  pointwise [k1_pay2]

theorem hidden_apply (i : grid1.Coords) (a : FVec Ideal S1024x10240 .fp8e4m3) (S : FVec Ideal S1x10240x128 .bf16) (c : FVec Ideal S1024x1 .f32)
    (b : FVec Ideal S1x1x128 .f32) (w : FVec Ideal S1x128x128 .bf16) (z : Fin 1) (y : Fin 1024) (q : Fin 128) :
    k1_pay3 (F := Ideal) i a S c b w (ix3 z y q)
      = if 1024 * (i 1).val + y.val < 10000 then ∑ j : Fin 128, max (k1_pay2 (F := Ideal) a S c (ix2 y j) + b (ix3 0 0 j)) 0 * w (ix3 0 j q) else 0 := by
  pointwise [k1_pay3]
  have hi : (i 1).val < 10 := (i 1).isLt
  rw [show IntOp.addi (Scalar.muli (BitVec.ofNat 32 (i 1).val) 1024#32) (BitVec.ofNat 32 y.val) = BitVec.ofNat 32 (1024 * (i 1).val + y.val) by
    simp only [IntOp.addi, Scalar.muli, IntOp.muli]
    apply BitVec.eq_of_toNat_eq
    simp only [BitVec.toNat_add, BitVec.toNat_mul, BitVec.toNat_ofNat]
    omega, below_word _ (by omega)]
  split_ifs <;> rfl

theorem output_apply (a : FVec Ideal S1024x10240 .fp8e4m3) (S : FVec Ideal S1x10240x128 .bf16) (c : FVec Ideal S1024x1 .f32)
    (b : FVec Ideal S1x1x128 .f32) (y : Fin 1024) (q : Fin 128) :
    k1_pay4 (F := Ideal) a S c b (ix2 y q) = k1_pay2 (F := Ideal) a S c (ix2 y q) + b (ix3 0 0 q) := by
  pointwise [k1_pay4]

end Cert.Proof
-- ==== Proof.Inputs0.lean ====
/-
  What the first call's input windows hold at a point, at one element of the array.
-/
module

public import proofs.«01_k».proof.Proof.Region0
public import proofs.«01_k».proof.Proof.Pay
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe

theorem index0_1 : ∀ t : Fin cfg0.N, win0_1.index t = ![t.val - 1, 0] := by decide +kernel
theorem index0_0 : ∀ t : Fin cfg0.N, win0_0.index t = ![0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![0, 0] := by decide +kernel

theorem sizes0_1 : ∀ t : Fin cfg0.N, win0_1.xsize (cfg0.grid.coords t) = ![min 320 (10000 - 320 * (t.val - 1)), 10000] := by decide +kernel
theorem sizes0_0 : ∀ t : Fin cfg0.N, win0_0.xsize (cfg0.grid.coords t) = ![10000, 128] := by decide +kernel

variable (V : Valuation τ sig (Elt Ideal))

/-- The adjacency block, at an element inside the matrix. -/
theorem in0_1 (t : Fin cfg0.N) (a : FVec Ideal S320x10240 .f32) (h : In0 V 1 t a) (y : Fin 320) (k : Fin 10240)
    (hy : 320 * (t.val - 1) + y.val < 10000) (hk : k.val < 10000) :
    a (ix2 y k) = V (Proc.devRef .tc main_arg1) (ix2 ⟨320 * (t.val - 1) + y.val, hy⟩ ⟨k.val, hk⟩) := by
  obtain ⟨d, rfl⟩ := h
  have hm : ∀ b : Fin 2, (ix2 y k b).val < win0_1.xsize (cfg0.grid.coords t) b := by
    rw [sizes0_1]; intro b
    match b with
    | 0 => show y.val < min 320 (10000 - 320 * (t.val - 1)); omega
    | 1 => exact hk
  refine ((cfg0.win 1).fill_xinj (cfg0.grid.coords t) d _ fun b => ⟨(ix2 y k b).val, hm b⟩).trans ?_
  blk_ext [index0_1]

/-- The feature array, at an element inside it. -/
theorem in0_0 (t : Fin cfg0.N) (x : FVec Ideal S10240x128 .f32) (h : In0 V 0 t x) (p : Fin 10240) (j : Fin 128) (hp : p.val < 10000) :
    x (ix2 p j) = V (Proc.devRef .tc main_arg0) (ix2 ⟨p.val, hp⟩ j) := by
  obtain ⟨d, rfl⟩ := h
  have hm : ∀ b : Fin 2, (ix2 p j b).val < win0_0.xsize (cfg0.grid.coords t) b := by
    rw [sizes0_0]; intro b
    match b with
    | 0 => exact hp
    | 1 => exact j.isLt
  refine ((cfg0.win 0).fill_xinj (cfg0.grid.coords t) d _ fun b => ⟨(ix2 p j b).val, hm b⟩).trans ?_
  blk_ext [index0_0]

/-- An array that one block holds whole. -/
theorem in0_2 (t : Fin cfg0.N) (x : FVec Ideal S128x128 .bf16) (h : In0 V 2 t x) (j : S128x128.Idx) : x j = V (Proc.devRef .tc main_v0) j := by
  obtain ⟨d, rfl⟩ := h
  refine ((cfg0.win 2).fill_xinj (cfg0.grid.coords t) d _ j).trans ?_
  blk_ext [index0_2]

theorem in0_3 (t : Fin cfg0.N) (x : FVec Ideal S128x128 .bf16) (h : In0 V 3 t x) (j : S128x128.Idx) : x j = V (Proc.devRef .tc main_v1) j := by
  obtain ⟨d, rfl⟩ := h
  refine ((cfg0.win 3).fill_xinj (cfg0.grid.coords t) d _ j).trans ?_
  blk_ext [index0_3]

theorem in0_4 (t : Fin cfg0.N) (x : FVec Ideal S1x128 .f32) (h : In0 V 4 t x) (j : S1x128.Idx) : x j = V (Proc.devRef .tc main_v6) j := by
  obtain ⟨d, rfl⟩ := h
  refine ((cfg0.win 4).fill_xinj (cfg0.grid.coords t) d _ j).trans ?_
  blk_ext [index0_4]

theorem in0_5 (t : Fin cfg0.N) (x : FVec Ideal S10240x128 .bf16) (h : In0 V 5 t x) (j : S10240x128.Idx) : x j = V (Proc.devRef .tc main_v12) j := by
  obtain ⟨d, rfl⟩ := h
  refine ((cfg0.win 5).fill_xinj (cfg0.grid.coords t) d _ j).trans ?_
  blk_ext [index0_5]

end Cert.Proof
-- ==== Proof.ArrayOf.lean ====
/-
  What an output's array holds after a call, element by element, from what the body may leave at each write-back.
-/
module

public import proofs.«01_k».proof.Proof.Segs
public import Idealize.ShloMosaic.Lib.Pipeline.ArrRel

@[expose] public section

set_option maxRecDepth 16384

noncomputable section

namespace Cert.Proof

open Cert.KernelIdeal Cert.KernelIdeal.Gen
open Idealize.ShloMosaic Idealize.ShloMosaic.TcCoe

/-- If whatever the body may leave at a write-back is, element by element, the array `H` at the block's place, and the blocks
    written back cover the array, the array ends as `H`. -/
theorem array_of_covers {cfg : Pipeline.Cfg sig Λ₀} {c : Dev nD} (rd : Pipeline.RDat τ (Elt Ideal) Unit ℕ UU ℕ cfg c) (w : Fin cfg.W)
    {G : Buf (Elt Ideal) ((cfg.win w).arr.view.loc (c.tc : Thread nD τ))} (hG : rd.ArrAt w cfg.N G) (hcov : (cfg.win w).Covers)
    (H : Buf (Elt Ideal) ((cfg.win w).arr.view.loc (c.tc : Thread nD τ)))
    (h : ∀ t, (cfg.win w).flush t = true → ∀ X, rd.Leaves w t X → ∀ y : ((cfg.win w).xblock (cfg.grid.coords t)).Idx,
      _root_.cast (congrArg (Elt Ideal) ((cfg.win w).blk t).view.elt_eq.symm) (X ((cfg.win w).xinj (cfg.grid.coords t) y))
        = H (((cfg.win w).blk t).view.emb y))
    (harr : (cfg.win w).arr.IsWhole) : G = H := by
  obtain ⟨X, hX, hA⟩ := hG.exists_exact
  rw [hA (Function.update (fun _ _ _ => Classical.arbitrary _) w X) fun u _ _ => by rw [Function.update_self]]
  refine Pipeline.Dat.arrAt_eq_of_covers _ w H hcov (fun t hf y => ?_) harr
  rw [Pipeline.RDat.withAfter_after, Function.update_self]
  exact h t hf (X t) (hX t t.isLt hf) y

end Cert.Proof
-- ==== Proof.Arrays0.lean ====
/-
  What the first call leaves in its three result arrays: the masked adjacency matrix times 8192, the second layer's projected
  features, and one divided by each row's sum.
-/
module

public import proofs.«01_k».proof.Proof.Inputs0
public import proofs.«01_k».proof.Proof.ArrayOf

@[expose] public section

set_option maxRecDepth 16384

noncomputable section

namespace Cert.Proof

open Cert.KernelIdeal Cert.KernelIdeal.Gen
open Idealize.ShloMosaic Idealize.ShloMosaic.TcCoe

/-- The adjacency matrix, zero past its edge. -/
def adjE (A : FVec Ideal S10000x10000 .f32) (p k : ℕ) : EReal :=
  if h : p < 10000 ∧ k < 10000 then A (ix2 ⟨p, h.1⟩ ⟨k, h.2⟩) else 0

/-- The input features times the first weights, zero past the last row. -/
def projE (x : FVec Ideal S10000x128 .f32) (w : FVec Ideal S128x128 .bf16) (p : ℕ) (q : Fin 128) : EReal :=
  if h : p < 10000 then ∑ j : Fin 128, x (ix2 ⟨p, h⟩ j) * w (ix2 j q) else 0

/-- A hidden layer's features times the next weights, zero past the last row: `s` is what the layer sums along the edges. -/
def nextE (s : ℕ → Fin 128 → EReal) (b : Fin 128 → EReal) (w : Fin 128 → Fin 128 → EReal) (p : ℕ) (q : Fin 128) : EReal :=
  if p < 10000 then ∑ j : Fin 128, max (s p j + b j) 0 * w j q else 0

/-- One over a row's sum, zero unless the sum is positive. -/
def inverseE (s : EReal) : EReal := if 0 < s then Ideal.div 1 s else 0

variable (V : Valuation τ sig (Elt Ideal))

theorem masked_in (t : Fin cfg0.N) (ht : 1 ≤ t.val) (a : FVec Ideal S320x10240 .f32) (h : In0 V 1 t a) (y : Fin 320) (k : Fin 10240) :
    k0_pay3 (F := Ideal) (co0 t) a (ix2 y k) = adjE (V (Proc.devRef .tc main_arg1)) (320 * (t.val - 1) + y.val) k.val := by
  have hN : t.val < 33 := t.isLt
  rw [co0, coord0, masked_apply t.val ht (by omega), adjE]
  by_cases hc : 320 * (t.val - 1) + y.val < 10000 ∧ k.val < 10000
  · rw [if_pos hc, dif_pos hc]; exact in0_1 V t a h y k hc.1 hc.2
  · rw [if_neg hc, dif_neg hc]

theorem features_in (S : FVec Ideal S10240x128 .bf16) (h : Scr0 V S) (p : Fin 10240) (q : Fin 128) :
    S (ix2 p q) = projE (V (Proc.devRef .tc main_arg0)) (V (Proc.devRef .tc main_v0)) p.val q := by
  obtain ⟨t, x, w, hx, hw, rfl⟩ := h
  rw [features_apply, projE]
  by_cases hp : p.val < 10000
  · rw [if_pos hp, dif_pos hp]
    refine Finset.sum_congr rfl fun j _ => ?_
    rw [in0_0 V t x hx p j hp, in0_2 V t w hw]
  · rw [if_neg hp, dif_neg hp]

theorem flush6 : ∀ t : Fin cfg0.N, win0_6.flush t = true → 1 ≤ t.val := by decide +kernel
theorem flush7 : ∀ t : Fin cfg0.N, win0_7.flush t = true → 1 ≤ t.val := by decide +kernel
theorem flush8 : ∀ t : Fin cfg0.N, win0_8.flush t = true → 1 ≤ t.val := by decide +kernel
theorem index0_6 : ∀ t : Fin cfg0.N, win0_6.index t = ![t.val - 1, 0] := by decide +kernel
theorem index0_7 : ∀ t : Fin cfg0.N, win0_7.index t = ![t.val - 1, 0] := by decide +kernel
theorem index0_8 : ∀ t : Fin cfg0.N, win0_8.index t = ![t.val - 1, 0] := by decide +kernel

/-- The scaled matrix. -/
def scaledG (A : FVec Ideal S10000x10000 .f32) : FVec Ideal S10240x10240 .fp8e4m3 := fun i => adjE A (i 0).val (i 1).val * ((8192 : ℝ) : EReal)

/-- The second layer's projected features. -/
def hiddenG (A : FVec Ideal S10000x10000 .f32) (x : FVec Ideal S10000x128 .f32) (w1 w2 : FVec Ideal S128x128 .bf16) (b : FVec Ideal S1x128 .f32) :
    FVec Ideal S10240x128 .bf16 := fun i =>
  nextE (fun p j => ∑ k : Fin 10240, adjE A p k.val * projE x w1 k.val j) (fun j => b (ix2 0 j)) (fun j q => w2 (ix2 j q)) (i 0).val (i 1)

/-- The rows' inverse sums. -/
def inverseG (A : FVec Ideal S10000x10000 .f32) (u : FVec Ideal S10240x128 .bf16) : FVec Ideal S10240x1 .f32 := fun i =>
  inverseE (∑ k : Fin 10240, adjE A (i 0).val k.val * ((8192 : ℝ) : EReal) * u (ix2 k 0))

variable {V}

theorem array6 (c : Dev nD) {G : FVec Ideal S10240x10240 .fp8e4m3} (hG : (rd0 V c).ArrAt 6 cfg0.N G) :
    G = scaledG (V (Proc.devRef .tc main_arg1)) := by
  refine array_of_covers (rd0 V c) 6 hG (by decide +kernel) _ (fun t hf X hX y => ?_) (Memref.isWhole_whole _)
  have ht := flush6 t hf
  obtain ⟨Y, -, hX⟩ := hX
  obtain ⟨a, ha, rfl⟩ := hX (by rw [coord0]; omega)
  obtain ⟨y0, y1, rfl⟩ : ∃ (y0 : Fin 320) (y1 : Fin 10240), y = ix2 y0 y1 := ⟨y 0, y 1, eq_ix2 y⟩
  blk_simp [scaledG, index0_6]
  rw [scaled_apply, masked_in V t ht a ha]
  congr 2 <;> (try simp) <;> (try omega)

theorem array8 (c : Dev nD) {G : FVec Ideal S10240x1 .f32} (hG : (rd0 V c).ArrAt 8 cfg0.N G) :
    G = inverseG (V (Proc.devRef .tc main_arg1)) (V (Proc.devRef .tc main_v12)) := by
  refine array_of_covers (rd0 V c) 8 hG (by decide +kernel) _ (fun t hf X hX y => ?_) (Memref.isWhole_whole _)
  have ht := flush8 t hf
  obtain ⟨Y, -, hX⟩ := hX
  obtain ⟨a, u, ha, hu, rfl⟩ := hX (by rw [coord0]; omega)
  obtain ⟨y0, y1, rfl⟩ : ∃ (y0 : Fin 320) (y1 : Fin 1), y = ix2 y0 y1 := ⟨y 0, y 1, eq_ix2 y⟩
  blk_simp [inverseG, index0_8]
  rw [inverse_apply]
  simp only [scaled_apply, masked_in V t ht a ha, in0_5 V t u hu]
  rw [Nat.mul_comm 320]
  rfl

theorem array7 (c : Dev nD) {G : FVec Ideal S10240x128 .bf16} (hG : (rd0 V c).ArrAt 7 cfg0.N G) :
    G = hiddenG (V (Proc.devRef .tc main_arg1)) (V (Proc.devRef .tc main_arg0)) (V (Proc.devRef .tc main_v0)) (V (Proc.devRef .tc main_v1))
      (V (Proc.devRef .tc main_v6)) := by
  refine array_of_covers (rd0 V c) 7 hG (by decide +kernel) _ (fun t hf X hX y => ?_) (Memref.isWhole_whole _)
  have ht := flush7 t hf
  have hN : t.val < 33 := t.isLt
  obtain ⟨Y, -, hX⟩ := hX
  obtain ⟨a, S, b, w, ha, hS, hb, hw, rfl⟩ := hX (by rw [coord0]; omega)
  obtain ⟨y0, y1, rfl⟩ : ∃ (y0 : Fin 320) (y1 : Fin 128), y = ix2 y0 y1 := ⟨y 0, y 1, eq_ix2 y⟩
  blk_simp [hiddenG, index0_7]
  have hc : co0 t = BitVec.ofNat 32 t.val := by rw [co0, coord0]
  rw [hc, next_apply t.val ht (by omega), ← hc]
  simp only [product_apply, masked_in V t ht a ha, features_in V S hS, in0_4 V t b hb, in0_3 V t w hw]
  rw [Nat.mul_comm 320, show ((View.whole main_v13_1).slice (win0_7.rect t)).emb (ix2 y0 y1) 1 = y1 from Fin.ext (by blk_simp [index0_7])]
  rfl

end Cert.Proof
-- ==== Proof.Inputs1.lean ====
/-
  What the second call's input windows hold at a point, at one element of the array.
-/
module

public import proofs.«01_k».proof.Proof.Region1
public import proofs.«01_k».proof.Proof.Pay
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe

theorem coord1_0 : ∀ t : Fin cfg1.N, ((grid1.coords t) 0).val = t.val / 10 := by decide +kernel
theorem coord1_1 : ∀ t : Fin cfg1.N, ((grid1.coords t) 1).val = t.val % 10 := by decide +kernel

theorem index1_0 : ∀ t : Fin cfg1.N, win1_0.index t = ![0, 0] := by decide +kernel
theorem index1_1 : ∀ t : Fin cfg1.N, win1_1.index t = ![t.val % 10, 0] := by decide +kernel
theorem index1_2 : ∀ t : Fin cfg1.N, win1_2.index t = ![t.val % 10, 0] := by decide +kernel
theorem index1_3 : ∀ t : Fin cfg1.N, win1_3.index t = ![t.val / 10, 0, 0] := by decide +kernel
theorem index1_4 : ∀ t : Fin cfg1.N, win1_4.index t = ![t.val / 10, 0, 0] := by decide +kernel

variable (V : Valuation τ sig (Elt Ideal))

/-- Row `y` of the `r`-th block of 1024 rows. -/
abbrev rowOf (n : ℕ) (y : Fin 1024) : Fin 10240 := ⟨n % 10 * 1024 + y.val, by omega⟩

/-- The layer of point `n`. -/
abbrev layerOf (n : ℕ) : Fin 5 := ⟨n / 10 % 5, by omega⟩

theorem in1_0 (t : Fin cfg1.N) (x : FVec Ideal S10240x128 .bf16) (h : In1 V 0 t x) (j : S10240x128.Idx) : x j = V (Proc.devRef .tc main_v13_1) j := by
  obtain ⟨d, rfl⟩ := h
  refine ((cfg1.win 0).fill_xinj (cfg1.grid.coords t) d _ j).trans ?_
  blk_ext [index1_0]

theorem in1_1 (t : Fin cfg1.N) (a : FVec Ideal S1024x10240 .fp8e4m3) (h : In1 V 1 t a) (y : Fin 1024) (k : Fin 10240) :
    a (ix2 y k) = V (Proc.devRef .tc main_v13_0) (ix2 (rowOf t.val y) k) := by
  obtain ⟨d, rfl⟩ := h
  refine ((cfg1.win 1).fill_xinj (cfg1.grid.coords t) d _ (ix2 y k)).trans ?_
  blk_ext [index1_1]

theorem in1_2 (t : Fin cfg1.N) (a : FVec Ideal S1024x1 .f32) (h : In1 V 2 t a) (y : Fin 1024) (z : Fin 1) :
    a (ix2 y z) = V (Proc.devRef .tc main_v13_2) (ix2 (rowOf t.val y) 0) := by
  obtain ⟨d, rfl⟩ := h
  refine ((cfg1.win 2).fill_xinj (cfg1.grid.coords t) d _ (ix2 y z)).trans ?_
  blk_ext [index1_2]

theorem in1_3 (t : Fin cfg1.N) (a : FVec Ideal S1x128x128 .bf16) (h : In1 V 3 t a) (z : Fin 1) (j q : Fin 128) :
    a (ix3 z j q) = V (Proc.devRef .tc main_v19) (ix3 (layerOf t.val) j q) := by
  have hN : t.val < 50 := t.isLt
  obtain ⟨d, rfl⟩ := h
  refine ((cfg1.win 3).fill_xinj (cfg1.grid.coords t) d _ (ix3 z j q)).trans ?_
  blk_ext [index1_3]
  all_goals omega

theorem in1_4 (t : Fin cfg1.N) (a : FVec Ideal S1x1x128 .f32) (h : In1 V 4 t a) (z z' : Fin 1) (q : Fin 128) :
    a (ix3 z z' q) = V (Proc.devRef .tc main_v25) (ix3 (layerOf t.val) 0 q) := by
  have hN : t.val < 50 := t.isLt
  obtain ⟨d, rfl⟩ := h
  refine ((cfg1.win 4).fill_xinj (cfg1.grid.coords t) d _ (ix3 z z' q)).trans ?_
  blk_ext [index1_4]
  all_goals omega

end Cert.Proof
-- ==== Proof.Planes.lean ====
/-
  The second call's scratch: two planes that hold, in turn, the features a layer reads and those it writes, block by block.
-/
module

public import proofs.«01_k».proof.Proof.Inputs1

@[expose] public section

set_option maxRecDepth 16384

noncomputable section

namespace Cert.Proof

open Cert.KernelIdeal Cert.KernelIdeal.Gen
open Idealize.ShloMosaic Idealize.ShloMosaic.TcCoe

theorem read_off : ∀ t : Fin cfg1.N, k1_off1 (grid1.coords t) = ![t.val / 10 % 2, 0, 0] := by decide +kernel
theorem write_off : ∀ t : Fin cfg1.N, k1_off2 (grid1.coords t) = ![1 - t.val / 10 % 2, t.val % 10 * 1024, 0] := by decide +kernel

/-- The plane that layer `l` reads. -/
abbrev planeOf (l : ℕ) : Fin 2 := ⟨l % 2, by omega⟩

/-- The plane that a point reads, at an element. -/
theorem plane_apply (t : Fin cfg1.N) (S : FVec Ideal S2x10240x128 .bf16) (z : Fin 1) (p : Fin 10240) (q : Fin 128) :
    plane (F := Ideal) (grid1.coords t) S (ix3 z p q) = S (ix3 (planeOf (t.val / 10)) p q) := by
  unfold plane View.ld
  refine congrArg S (funext fun a => Fin.ext ?_)
  have e : ∀ b, k1_off1 (grid1.coords t) b = (![t.val / 10 % 2, 0, 0] : Fin 3 → ℕ) b := fun b => by rw [read_off]
  have hz : z.val = 0 := by omega
  match a with
  | 0 => show k1_off1 (grid1.coords t) 0 + 1 * z.val = _; rw [e, hz]; rfl
  | 1 => show k1_off1 (grid1.coords t) 1 + 1 * p.val = _; rw [e]; show 0 + 1 * p.val = p.val; omega
  | 2 => show k1_off1 (grid1.coords t) 2 + 1 * q.val = _; rw [e]; show 0 + 1 * q.val = q.val; omega

/-- The scratch after the first branch, at an element: at the first point the first plane is the input. -/
theorem started_apply (t : Fin cfg1.N) (x : FVec Ideal S10240x128 .bf16) (S : FVec Ideal S2x10240x128 .bf16) (s : Fin 2) (p : Fin 10240) (q : Fin 128) :
    started (F := Ideal) (grid1.coords t) x S (ix3 s p q) = if t.val = 0 ∧ s.val = 0 then x (ix2 p q) else S (ix3 s p q) := by
  have hN : t.val < 50 := t.isLt
  unfold started
  rw [coord1_0, coord1_1]
  by_cases ht : t.val = 0
  · rw [if_pos (by omega)]
    unfold put
    by_cases hs : s.val = 0
    · rw [if_pos ⟨ht, hs⟩, dif_pos (by
        intro a
        match a with
        | 0 => show 0 ≤ s.val ∧ s.val - 0 < 1; omega
        | 1 => show 0 ≤ p.val ∧ p.val - 0 < 10240; omega
        | 2 => show 0 ≤ q.val ∧ q.val - 0 < 128; omega)]
      refine (congrArg _ ?_).trans (loaded_apply x 0 p q)
      funext a
      apply Fin.ext
      match a with
      | 0 => exact hs
      | 1 => rfl
      | 2 => rfl
    · rw [if_neg fun h => hs h.2, dif_neg]
      intro h
      have h0 : s.val - 0 < 1 := (h 0).2
      omega
  · rw [if_neg (by omega), if_neg fun h => ht h.1]

/-- The scratch after a block of the next features is stored, at an element. -/
theorem put_apply (t : Fin cfg1.N) (S : FVec Ideal S2x10240x128 .bf16) (w : FVec Ideal S1x1024x128 .bf16) (s : Fin 2) (p : Fin 10240) (q : Fin 128) :
    put (F := Ideal) (s := S2x10240x128) (e := .bf16) (k1_off2 (grid1.coords t)) S1x1024x128.size S w (ix3 s p q)
      = if h : s.val = 1 - t.val / 10 % 2 ∧ t.val % 10 * 1024 ≤ p.val ∧ p.val - t.val % 10 * 1024 < 1024
        then w (ix3 0 ⟨p.val - t.val % 10 * 1024, h.2.2⟩ q) else S (ix3 s p q) := by
  rw [write_off]
  unfold put
  by_cases h : s.val = 1 - t.val / 10 % 2 ∧ t.val % 10 * 1024 ≤ p.val ∧ p.val - t.val % 10 * 1024 < 1024
  · rw [dif_pos h, dif_pos (by
      intro a
      match a with
      | 0 => show 1 - t.val / 10 % 2 ≤ s.val ∧ s.val - (1 - t.val / 10 % 2) < 1; omega
      | 1 => exact h.2
      | 2 => show 0 ≤ q.val ∧ q.val - 0 < 128; omega)]
    refine congrArg w (funext fun a => Fin.ext ?_)
    match a with
    | 0 => show s.val - (1 - t.val / 10 % 2) = 0; omega
    | 1 => rfl
    | 2 => rfl
  · rw [dif_neg h, dif_neg]
    intro h'
    have h0 : 1 - t.val / 10 % 2 ≤ s.val ∧ s.val - (1 - t.val / 10 % 2) < 1 := h' 0
    exact h ⟨by omega, h' 1⟩

end Cert.Proof
-- ==== Proof.Scratch1.lean ====
/-
  What the second call's scratch holds at each point: the planes carry the layers' features, whatever the scratch held at first.
-/
module

public import proofs.«01_k».proof.Proof.Planes

@[expose] public section

set_option maxRecDepth 16384

noncomputable section

namespace Cert.Proof

open Cert.KernelIdeal Cert.KernelIdeal.Gen
open Idealize.ShloMosaic Idealize.ShloMosaic.TcCoe

/-- One layer's sum along the edges, as the second call computes it: the stored matrix times the features, times the row's factor. -/
def sumE (a : FVec Ideal S10240x10240 .fp8e4m3) (c : FVec Ideal S10240x1 .f32) (h : Fin 10240 → Fin 128 → EReal) (p : Fin 10240) (q : Fin 128) : EReal :=
  (∑ k : Fin 10240, a (ix2 p k) * h k q) * c (ix2 p 0)

/-- The features that layer `l` of the second call reads. -/
def hid (a : FVec Ideal S10240x10240 .fp8e4m3) (c : FVec Ideal S10240x1 .f32) (w : FVec Ideal S5x128x128 .bf16) (b : FVec Ideal S5x1x128 .f32)
    (s : FVec Ideal S10240x128 .bf16) : ℕ → Fin 10240 → Fin 128 → EReal
  | 0 => fun p q => s (ix2 p q)
  | l + 1 => fun p q => if p.val < 10000
    then ∑ j : Fin 128, max (sumE a c (hid a c w b s l) p j + b (ix3 ⟨l % 5, by omega⟩ 0 j)) 0 * w (ix3 ⟨l % 5, by omega⟩ j q) else 0

/-- Those features from the buffers' contents at the second call's entry. -/
abbrev hidV (V : Valuation τ sig (Elt Ideal)) : ℕ → Fin 10240 → Fin 128 → EReal :=
  hid (V (Proc.devRef .tc main_v13_0)) (V (Proc.devRef .tc main_v13_2)) (V (Proc.devRef .tc main_v19)) (V (Proc.devRef .tc main_v25))
    (V (Proc.devRef .tc main_v13_1))

/-- What the scratch holds before point `n`: in one plane the layer's features, in the other the next layer's, as far as they are stored. -/
def Holds (V : Valuation τ sig (Elt Ideal)) (n : ℕ) (S : FVec Ideal S2x10240x128 .bf16) : Prop :=
  (n < 50 → 0 < n → ∀ p q, S (ix3 (planeOf (n / 10)) p q) = hidV V (n / 10) p q)
    ∧ (n / 10 < 4 → ∀ p : Fin 10240, p.val < n % 10 * 1024 → ∀ q, S (ix3 (planeOf (n / 10 + 1)) p q) = hidV V (n / 10 + 1) p q)

variable {V : Valuation τ sig (Elt Ideal)}

theorem started_holds (t : Fin cfg1.N) (x : FVec Ideal S10240x128 .bf16) (hx : In1 V 0 t x) (S : FVec Ideal S2x10240x128 .bf16)
    (h : Holds V t.val S) (p : Fin 10240) (q : Fin 128) :
    started (F := Ideal) (grid1.coords t) x S (ix3 (planeOf (t.val / 10)) p q) = hidV V (t.val / 10) p q := by
  rw [started_apply]
  by_cases ht : t.val = 0
  · rw [if_pos ⟨ht, by show t.val / 10 % 2 = 0; omega⟩, in1_0 V t x hx, show t.val / 10 = 0 by omega]
    rfl
  · rw [if_neg fun h => ht h.1]
    exact h.1 t.isLt (by omega) p q

/-- The sum that a point computes. -/
theorem propagated_holds (t : Fin cfg1.N) (x : FVec Ideal S10240x128 .bf16) (hx : In1 V 0 t x) (S : FVec Ideal S2x10240x128 .bf16)
    (h : Holds V t.val S) (a : FVec Ideal S1024x10240 .fp8e4m3) (ha : In1 V 1 t a) (c : FVec Ideal S1024x1 .f32) (hc : In1 V 2 t c)
    (y : Fin 1024) (q : Fin 128) :
    k1_pay2 (F := Ideal) a (plane (grid1.coords t) (started (grid1.coords t) x S)) c (ix2 y q)
      = sumE (V (Proc.devRef .tc main_v13_0)) (V (Proc.devRef .tc main_v13_2)) (hidV V (t.val / 10)) (rowOf t.val y) q := by
  rw [propagated_apply, sumE, in1_2 V t c hc]
  congr 1
  refine Finset.sum_congr rfl fun k _ => ?_
  rw [in1_1 V t a ha, plane_apply, started_holds t x hx S h]

/-- What a point of a layer before the last stores. -/
theorem stored_holds (t : Fin cfg1.N) (x : FVec Ideal S10240x128 .bf16) (hx : In1 V 0 t x) (S : FVec Ideal S2x10240x128 .bf16)
    (h : Holds V t.val S) (a : FVec Ideal S1024x10240 .fp8e4m3) (ha : In1 V 1 t a) (c : FVec Ideal S1024x1 .f32) (hc : In1 V 2 t c)
    (w : FVec Ideal S1x128x128 .bf16) (hw : In1 V 3 t w) (b : FVec Ideal S1x1x128 .f32) (hb : In1 V 4 t b) (y : Fin 1024) (q : Fin 128) :
    k1_pay3 (F := Ideal) (grid1.coords t) a (plane (grid1.coords t) (started (grid1.coords t) x S)) c b w (ix3 0 y q)
      = hidV V (t.val / 10 + 1) (rowOf t.val y) q := by
  rw [hidden_apply, coord1_1, Nat.mul_comm 1024]
  show _ = hid _ _ _ _ _ (t.val / 10 + 1) (rowOf t.val y) q
  rw [hid]
  simp only [propagated_holds t x hx S h a ha c hc, in1_3 V t w hw, in1_4 V t b hb]

/-- The scratch after a point of a layer before the last. -/
theorem mid_holds (t : Fin cfg1.N) (hl : t.val / 10 < 4) (x : FVec Ideal S10240x128 .bf16) (hx : In1 V 0 t x) (S : FVec Ideal S2x10240x128 .bf16)
    (h : Holds V t.val S) (P : FVec Ideal S1x1024x128 .bf16) (hP : ∀ y q, P (ix3 0 y q) = hidV V (t.val / 10 + 1) (rowOf t.val y) q) :
    Holds V (t.val + 1) (put (s := S2x10240x128) (e := .bf16) (k1_off2 (grid1.coords t)) S1x1024x128.size (started (F := Ideal) (grid1.coords t) x S) P) := by
  have hread : ∀ p q, put (F := Ideal) (s := S2x10240x128) (e := .bf16) (k1_off2 (grid1.coords t)) S1x1024x128.size (started (grid1.coords t) x S) P
      (ix3 (planeOf (t.val / 10)) p q) = hidV V (t.val / 10) p q := fun p q => by
    rw [put_apply, dif_neg fun h => by have : t.val / 10 % 2 = 1 - t.val / 10 % 2 := h.1; omega]
    exact started_holds t x hx S h p q
  have hwrite : ∀ p : Fin 10240, p.val < (t.val % 10 + 1) * 1024 → ∀ q, put (F := Ideal) (s := S2x10240x128) (e := .bf16) (k1_off2 (grid1.coords t)) S1x1024x128.size
      (started (grid1.coords t) x S) P (ix3 (planeOf (t.val / 10 + 1)) p q) = hidV V (t.val / 10 + 1) p q := fun p hp q => by
    rw [put_apply]
    have hs : (t.val / 10 + 1) % 2 = 1 - t.val / 10 % 2 := by omega
    by_cases hr : t.val % 10 * 1024 ≤ p.val
    · rw [dif_pos ⟨hs, hr, by omega⟩, hP]
      congr 1
      apply Fin.ext
      show t.val % 10 * 1024 + (p.val - t.val % 10 * 1024) = p.val
      omega
    · rw [dif_neg fun h => hr h.2.1, started_apply, if_neg fun h => by omega]
      exact h.2 hl p (by omega) q
  by_cases h9 : t.val % 10 = 9
  · have e : (t.val + 1) / 10 = t.val / 10 + 1 := by omega
    refine ⟨fun _ _ p q => ?_, fun _ p hp => absurd hp (by omega)⟩
    rw [e]
    exact hwrite p (by have := p.isLt; omega) q
  · have e : (t.val + 1) / 10 = t.val / 10 := by omega
    refine ⟨fun _ _ p q => ?_, fun _ p hp q => ?_⟩
    · rw [e]; exact hread p q
    · rw [e]; exact hwrite p (by omega) q

/-- Whatever the scratch may hold before a point, it holds the layers' features. -/
theorem scratch_holds (n : ℕ) (S : Vec Ideal S2x10240x128 .bf16) (h : Scr1 V n S) : Holds V n S := by
  induction h with
  | start S => exact ⟨fun _ h => absurd h (Nat.lt_irrefl 0), fun _ p hp => absurd hp (by omega)⟩
  | mid t S x a c w b _ hx ha hc hw hb hl ih =>
    rw [coord1_0] at hl
    exact mid_holds t hl x hx S ih _ (stored_holds t x hx S ih a ha c hc w hw b hb)
  | last t S x _ hx hl ih =>
    rw [coord1_0] at hl
    refine ⟨fun hn _ p q => ?_, fun hn => absurd hn (by omega)⟩
    have e : (t.val + 1) / 10 = t.val / 10 := by omega
    rw [e]
    exact started_holds t x hx S ih p q

/-- What the second call leaves in its result. -/
def outG (V : Valuation τ sig (Elt Ideal)) : FVec Ideal S10240x128 .f32 := fun i =>
  sumE (V (Proc.devRef .tc main_v13_0)) (V (Proc.devRef .tc main_v13_2)) (hidV V 4) (i 0) (i 1)
    + (V (Proc.devRef .tc main_v25) : FVec Ideal S5x1x128 .f32) (ix3 4 0 (i 1))

end Cert.Proof
-- ==== Proof.Math.lean ====
/-
  The mathematics of a layer over the extended reals: with rows that sum to one, the scaled matrix's product times the row's
  inverse sum is the matrix's product.
-/
module

public import proofs.«01_k».proof.Proof.Arrays0
public import proofs.«01_k».proof.Proof.Scratch1

@[expose] public section

set_option maxRecDepth 16384

noncomputable section

namespace Cert.Proof

open Cert.KernelIdeal Cert.KernelIdeal.Gen
open Idealize.ShloMosaic Idealize.ShloMosaic.TcCoe

/-- A sum that vanishes past the matrix's edge. -/
theorem sum_edge (f : ℕ → EReal) (h : ∀ k, 10000 ≤ k → f k = 0) : ∑ k : Fin 10240, f k.val = ∑ k : Fin 10000, f k.val := by
  rw [Fin.sum_univ_eq_sum_range f 10240, Fin.sum_univ_eq_sum_range f 10000]
  refine (Finset.sum_subset (Finset.range_mono (by omega)) fun k _ hk => h k ?_).symm
  simpa using hk

/-- A positive real factor goes into a sum, whatever the terms. -/
theorem sum_mul_real {ι : Type} (s : Finset ι) (f : ι → EReal) (r : ℝ) (hr : 0 ≤ r) : (∑ k ∈ s, f k) * (r : EReal) = ∑ k ∈ s, f k * (r : EReal) := by
  induction s using Finset.cons_induction with
  | empty => simp
  | cons a s ha ih =>
    rw [Finset.sum_cons, Finset.sum_cons, EReal.right_distrib_of_nonneg_of_ne_top (EReal.coe_nonneg.mpr hr) (EReal.coe_ne_top r), ih]

theorem adjE_in (A : FVec Ideal S10000x10000 .f32) (p k : Fin 10000) : adjE A p.val k.val = A (ix2 p k) := by
  rw [adjE, dif_pos ⟨p.isLt, k.isLt⟩]

/-- A row's product with features that the matrix's edge cuts. -/
theorem adjE_sum (A : FVec Ideal S10000x10000 .f32) (p : Fin 10000) (h : Fin 10240 → EReal) :
    ∑ k : Fin 10240, adjE A p.val k.val * h k = ∑ k : Fin 10000, A (ix2 p k) * h ⟨k.val, by omega⟩ := by
  have e := sum_edge (fun k => adjE A p.val k * if hk : k < 10240 then h ⟨k, hk⟩ else 0) fun k hk => by
    rw [adjE, dif_neg (by omega), zero_mul]
  simp only [adjE_in, Fin.is_lt, dif_pos] at e
  rw [e]
  refine Finset.sum_congr rfl fun k _ => ?_
  rw [dif_pos (by omega)]

/-- A row that sums to one has 1/8192 for its stored factor. -/
theorem inverse_row (A : FVec Ideal S10000x10000 .f32) (u : FVec Ideal S10240x128 .bf16) (hu : ∀ k : Fin 10240, u (ix2 k 0) = (1 : EReal)) (p : Fin 10000)
    (hp : ∑ k : Fin 10000, A (ix2 p k) = (1 : EReal)) : inverseG A u (ix2 ⟨p.val, by omega⟩ 0) = ((1 / 8192 : ℝ) : EReal) := by
  have e : ∑ k : Fin 10240, adjE A p.val k.val * ((8192 : ℝ) : EReal) * u (ix2 k 0) = ((8192 : ℝ) : EReal) := by
    simp only [hu, mul_one]
    rw [← sum_mul_real _ _ 8192 (by norm_num)]
    have h1 := adjE_sum A p fun _ => 1
    simp only [mul_one] at h1
    rw [h1, hp, one_mul]
  show inverseE (∑ k : Fin 10240, adjE A p.val k.val * ((8192 : ℝ) : EReal) * u (ix2 k 0)) = _
  rw [e, inverseE, if_pos (by exact_mod_cast (by norm_num : (0 : ℝ) < 8192)), Ideal.div,
    if_neg (by exact_mod_cast (by norm_num : (8192 : ℝ) ≠ 0)), one_mul, ← EReal.coe_inv]
  norm_num

/-- One layer's sum, as the second call computes it, is the matrix's product. -/
theorem sum_layer (A : FVec Ideal S10000x10000 .f32) (u : FVec Ideal S10240x128 .bf16) (hu : ∀ k : Fin 10240, u (ix2 k 0) = (1 : EReal)) (p : Fin 10000)
    (hp : ∑ k : Fin 10000, A (ix2 p k) = (1 : EReal)) (h : Fin 10240 → Fin 128 → EReal) (q : Fin 128) :
    sumE (scaledG A) (inverseG A u) h ⟨p.val, by omega⟩ q = ∑ k : Fin 10000, A (ix2 p k) * h ⟨k.val, by omega⟩ q := by
  rw [sumE, inverse_row A u hu p hp, sum_mul_real _ _ _ (by norm_num), ← adjE_sum A p fun k => h k q]
  refine Finset.sum_congr rfl fun k _ => ?_
  show adjE A p.val k.val * ((8192 : ℝ) : EReal) * h k q * _ = _
  rw [mul_right_comm, mul_assoc (adjE A p.val k.val), ← EReal.coe_mul]
  norm_num

section
variable (A : FVec Ideal S10000x10000 .f32) (x : Fin 10000 → Fin 128 → EReal) (w : ℕ → Fin 128 → Fin 128 → EReal) (b : ℕ → Fin 128 → EReal)

/-- The features that layer `n + 1` of the network sums along the edges: the layer before's, times the layer's weights. -/
def layers : ℕ → Fin 10000 → Fin 128 → EReal
  | 0 => fun p q => ∑ j : Fin 128, x p j * w 0 j q
  | n + 1 => fun p q => ∑ j : Fin 128, max ((∑ k : Fin 10000, A (ix2 p k) * layers n k j) + b n j) 0 * w (n + 1) j q

/-- The network's result: six layers. -/
def network (p : Fin 10000) (q : Fin 128) : EReal := (∑ k : Fin 10000, A (ix2 p k) * layers A x w b 5 k q) + b 5 q

/-- The second call's features are the network's. -/
theorem hid_layers (hA : ∀ p : Fin 10000, ∑ k : Fin 10000, A (ix2 p k) = (1 : EReal)) (u : FVec Ideal S10240x128 .bf16)
    (hu : ∀ k : Fin 10240, u (ix2 k 0) = (1 : EReal)) (W : FVec Ideal S5x128x128 .bf16) (B : FVec Ideal S5x1x128 .f32) (s : FVec Ideal S10240x128 .bf16)
    (hW : ∀ l, l < 4 → ∀ j q, W (ix3 ⟨l % 5, by omega⟩ j q) = w (l + 2) j q) (hB : ∀ l, l < 4 → ∀ q, B (ix3 ⟨l % 5, by omega⟩ 0 q) = b (l + 1) q)
    (hs : ∀ (p : Fin 10000) q, s (ix2 ⟨p.val, by omega⟩ q) = layers A x w b 1 p q) :
    ∀ l, l ≤ 4 → ∀ (p : Fin 10000) q, hid (scaledG A) (inverseG A u) W B s l ⟨p.val, by omega⟩ q = layers A x w b (l + 1) p q
  | 0, _, p, q => hs p q
  | l + 1, hl, p, q => by
    refine (if_pos p.isLt).trans ?_
    rw [layers]
    refine Finset.sum_congr rfl fun j _ => ?_
    rw [sum_layer A u hu p (hA p), hW l (by omega), hB l (by omega)]
    congr 3
    refine Finset.sum_congr rfl fun k _ => ?_
    rw [hid_layers hA u hu W B s hW hB hs l (by omega)]

/-- The first call's features are the network's. -/
theorem hidden_layers (X : FVec Ideal S10000x128 .f32) (W1 W2 : FVec Ideal S128x128 .bf16) (B1 : FVec Ideal S1x128 .f32)
    (hX : ∀ p j, X (ix2 p j) = x p j) (h1 : ∀ j q, W1 (ix2 j q) = w 0 j q) (h2 : ∀ j q, W2 (ix2 j q) = w 1 j q) (hB : ∀ q, B1 (ix2 0 q) = b 0 q)
    (p : Fin 10000) (q : Fin 128) : hiddenG A X W1 W2 B1 (ix2 ⟨p.val, by omega⟩ q) = layers A x w b 1 p q := by
  refine (if_pos p.isLt).trans ?_
  rw [layers]
  refine Finset.sum_congr rfl fun j _ => ?_
  show max ((∑ k : Fin 10240, adjE A p.val k.val * projE X W1 k.val j) + B1 (ix2 0 j)) 0 * W2 (ix2 j q) = _
  rw [adjE_sum A p fun k => projE X W1 k.val j, h2, hB]
  congr 3
  refine Finset.sum_congr rfl fun k _ => ?_
  rw [layers, projE, dif_pos k.isLt]
  simp only [hX, h1]

/-- The second call's result is the network's. -/
theorem out_network (hA : ∀ p : Fin 10000, ∑ k : Fin 10000, A (ix2 p k) = (1 : EReal)) (u : FVec Ideal S10240x128 .bf16)
    (hu : ∀ k : Fin 10240, u (ix2 k 0) = (1 : EReal)) (W : FVec Ideal S5x128x128 .bf16) (B : FVec Ideal S5x1x128 .f32) (s : FVec Ideal S10240x128 .bf16)
    (hW : ∀ l, l < 4 → ∀ j q, W (ix3 ⟨l % 5, by omega⟩ j q) = w (l + 2) j q) (hB : ∀ l, l < 5 → ∀ q, B (ix3 ⟨l % 5, by omega⟩ 0 q) = b (l + 1) q)
    (hs : ∀ (p : Fin 10000) q, s (ix2 ⟨p.val, by omega⟩ q) = layers A x w b 1 p q) (p : Fin 10000) (q : Fin 128) :
    sumE (scaledG A) (inverseG A u) (hid (scaledG A) (inverseG A u) W B s 4) ⟨p.val, by omega⟩ q + B (ix3 4 0 q) = network A x w b p q := by
  rw [sum_layer A u hu p (hA p), network]
  have hl := hid_layers A x w b hA u hu W B s hW (fun l hl => hB l (by omega)) hs 4 (Nat.le_refl 4)
  simp only [hl]
  exact congrArg _ (hB 4 (by omega) q)

end

end Cert.Proof
-- ==== Proof.Host.lean ====
/-
  What the host operations around the two calls compute, at one element.
-/
module

public import proofs.«01_k».proof.Proof.Gen.KernelIdeal.Regions
public import Idealize.ShloMosaic.Lib.Pointwise
public import Idealize.ShloMosaic.Lib.IdealHost
public import Idealize.ShloMosaic.Lib.StableHlo.RunRead

@[expose] public section

set_option maxRecDepth 16384

noncomputable section

namespace Cert.Proof

open Cert.KernelIdeal Cert.KernelIdeal.Gen
open Idealize.ShloMosaic Idealize.ShloMosaic.TcCoe

variable (V : Valuation τ sig (Elt Ideal))

theorem first_v0 (j : S128x128.Idx) : StableHlo.after hostOps0 V (Proc.devRef .tc main_v0) j = V (Proc.devRef .tc main_arg2) j := by
  after_reads_simp
  rfl
theorem first_v1 (j : S128x128.Idx) : StableHlo.after hostOps0 V (Proc.devRef .tc main_v1) j = V (Proc.devRef .tc main_arg4) j := by
  after_reads_simp
  rfl
theorem first_v6 (j : Fin 128) : StableHlo.after hostOps0 V (Proc.devRef .tc main_v6) (ix2 0 j) = V (Proc.devRef .tc main_arg3) (ix1 j) := by
  after_reads_simp
  pointwise
theorem first_v12 (p : Fin 10240) (q : Fin 128) : (StableHlo.after hostOps0 V (Proc.devRef .tc main_v12) : FVec Ideal S10240x128 .bf16) (ix2 p q) = (1 : EReal) := by
  after_reads_simp
  pointwise

/-- The stacked weights, from the five weights' buffers. -/
theorem second_v19 (j q : Fin 128) :
    StableHlo.after hostOps1 V (Proc.devRef .tc main_v19) (ix3 0 j q) = V (Proc.devRef .tc main_v2) (ix2 j q)
    ∧ StableHlo.after hostOps1 V (Proc.devRef .tc main_v19) (ix3 1 j q) = V (Proc.devRef .tc main_v3) (ix2 j q)
    ∧ StableHlo.after hostOps1 V (Proc.devRef .tc main_v19) (ix3 2 j q) = V (Proc.devRef .tc main_v4) (ix2 j q)
    ∧ StableHlo.after hostOps1 V (Proc.devRef .tc main_v19) (ix3 3 j q) = V (Proc.devRef .tc main_v5) (ix2 j q) := by
  after_reads_simp
  refine ⟨?_, ?_, ?_, ?_⟩ <;> (pointwise; after_reads_simp; pointwise)

/-- The stacked biases, from the five biases' buffers. -/
theorem second_v25 (q : Fin 128) :
    StableHlo.after hostOps1 V (Proc.devRef .tc main_v25) (ix3 0 0 q) = V (Proc.devRef .tc main_v7) (ix2 0 q)
    ∧ StableHlo.after hostOps1 V (Proc.devRef .tc main_v25) (ix3 1 0 q) = V (Proc.devRef .tc main_v8) (ix2 0 q)
    ∧ StableHlo.after hostOps1 V (Proc.devRef .tc main_v25) (ix3 2 0 q) = V (Proc.devRef .tc main_v9) (ix2 0 q)
    ∧ StableHlo.after hostOps1 V (Proc.devRef .tc main_v25) (ix3 3 0 q) = V (Proc.devRef .tc main_v10) (ix2 0 q)
    ∧ StableHlo.after hostOps1 V (Proc.devRef .tc main_v25) (ix3 4 0 q) = V (Proc.devRef .tc main_v11) (ix2 0 q) := by
  after_reads_simp
  refine ⟨?_, ?_, ?_, ?_, ?_⟩ <;> (pointwise; after_reads_simp; pointwise)

/-- The converted weights and reshaped biases that the second call takes. -/
theorem first_weights (j : S128x128.Idx) :
    StableHlo.after hostOps0 V (Proc.devRef .tc main_v2) j = V (Proc.devRef .tc main_arg6) j
    ∧ StableHlo.after hostOps0 V (Proc.devRef .tc main_v3) j = V (Proc.devRef .tc main_arg8) j
    ∧ StableHlo.after hostOps0 V (Proc.devRef .tc main_v4) j = V (Proc.devRef .tc main_arg10) j
    ∧ StableHlo.after hostOps0 V (Proc.devRef .tc main_v5) j = V (Proc.devRef .tc main_arg12) j := by
  after_reads_simp
  exact ⟨rfl, rfl, rfl, rfl⟩

theorem first_biases (j : Fin 128) :
    StableHlo.after hostOps0 V (Proc.devRef .tc main_v7) (ix2 0 j) = V (Proc.devRef .tc main_arg5) (ix1 j)
    ∧ StableHlo.after hostOps0 V (Proc.devRef .tc main_v8) (ix2 0 j) = V (Proc.devRef .tc main_arg7) (ix1 j)
    ∧ StableHlo.after hostOps0 V (Proc.devRef .tc main_v9) (ix2 0 j) = V (Proc.devRef .tc main_arg9) (ix1 j)
    ∧ StableHlo.after hostOps0 V (Proc.devRef .tc main_v10) (ix2 0 j) = V (Proc.devRef .tc main_arg11) (ix1 j)
    ∧ StableHlo.after hostOps0 V (Proc.devRef .tc main_v11) (ix2 0 j) = V (Proc.devRef .tc main_arg13) (ix1 j) := by
  after_reads_simp
  refine ⟨?_, ?_, ?_, ?_, ?_⟩ <;> pointwise

theorem third_v27 (p : Fin 10000) (q : Fin 128) :
    StableHlo.after hostOps2 V (Proc.devRef .tc main_v27) (ix2 p q) = V (Proc.devRef .tc main_v26) (ix2 ⟨p.val, by omega⟩ q) := by
  after_reads_simp
  pointwise

end Cert.Proof
-- ==== Proof.Arrays1.lean ====
/-
  What the second call leaves in its result array.
-/
module

public import proofs.«01_k».proof.Proof.Scratch1
public import proofs.«01_k».proof.Proof.ArrayOf

@[expose] public section

set_option maxRecDepth 16384

noncomputable section

namespace Cert.Proof

open Cert.KernelIdeal Cert.KernelIdeal.Gen
open Idealize.ShloMosaic Idealize.ShloMosaic.TcCoe

theorem flush1_5 : ∀ t : Fin cfg1.N, win1_5.flush t = true → 40 ≤ t.val := by decide +kernel
theorem index1_5 : ∀ t : Fin cfg1.N, 40 ≤ t.val → win1_5.index t = ![t.val % 10, 0] := by decide +kernel

variable {V : Valuation τ sig (Elt Ideal)}

theorem array5 (c : Dev nD) {G : FVec Ideal S10240x128 .f32} (hG : (rd1 V c).ArrAt 5 cfg1.N G) : G = outG V := by
  refine array_of_covers (rd1 V c) 5 hG (by decide +kernel) _ (fun t hf X hX y => ?_) (Memref.isWhole_whole _)
  have ht := flush1_5 t hf
  have hN : t.val < 50 := t.isLt
  obtain ⟨Y, -, hX⟩ := hX
  obtain ⟨S, x, a, q, b, hS, hx, ha, hq, hb, rfl⟩ := hX (by rw [coord1_0]; omega)
  obtain ⟨y0, y1, rfl⟩ : ∃ (y0 : Fin 1024) (y1 : Fin 128), y = ix2 y0 y1 := ⟨y 0, y 1, eq_ix2 y⟩
  have e0 : (win1_5.blk t).view.emb (ix2 y0 y1) = ix2 (rowOf t.val y0) y1 := by blk_ext [index1_5 t ht]
  refine Eq.trans ?_ (congrArg (outG V) e0).symm
  refine Eq.trans (b := k1_pay4 (F := Ideal) a (plane (grid1.coords t) (started (grid1.coords t) x S)) q b (ix2 y0 y1)) rfl ?_
  rw [output_apply, propagated_holds t x hx S (scratch_holds _ S hS) a ha q hq, in1_4 V t b hb]
  have e1 : t.val / 10 = 4 := by omega
  have e2 : layerOf t.val = 4 := by apply Fin.ext; show t.val / 10 % 5 = 4; omega
  rw [e1, e2]
  rfl

end Cert.Proof
-- ==== Proof.Value.lean ====
/-
  The kernel's result: the network of its arguments, when the adjacency's rows sum to one.
-/
module

public import proofs.«01_k».proof.Proof.Math
public import proofs.«01_k».proof.Proof.Host
public import proofs.«01_k».proof.Proof.Arrays1
public import proofs.«01_k».proof.Proof.Frames

@[expose] public section

set_option maxRecDepth 16384

noncomputable section

namespace Cert.Proof

open Cert.KernelIdeal Cert.KernelIdeal.Gen
open Idealize.ShloMosaic Idealize.ShloMosaic.TcCoe

/-- The six layers' weights, in order. -/
def weights (w1 w2 w3 w4 w5 w6 : FVec Ideal S128x128 .f32) : ℕ → Fin 128 → Fin 128 → EReal
  | 0 => fun j q => w1 (ix2 j q)
  | 1 => fun j q => w2 (ix2 j q)
  | 2 => fun j q => w3 (ix2 j q)
  | 3 => fun j q => w4 (ix2 j q)
  | 4 => fun j q => w5 (ix2 j q)
  | _ => fun j q => w6 (ix2 j q)

/-- The six layers' biases, in order. -/
def biases (b1 b2 b3 b4 b5 b6 : FVec Ideal S128 .f32) : ℕ → Fin 128 → EReal
  | 0 => fun q => b1 (ix1 q)
  | 1 => fun q => b2 (ix1 q)
  | 2 => fun q => b3 (ix1 q)
  | 3 => fun q => b4 (ix1 q)
  | 4 => fun q => b5 (ix1 q)
  | _ => fun q => b6 (ix1 q)

/-- The network's result as an array of the arguments. -/
def networkG (x : FVec Ideal S10000x128 .f32) (A : FVec Ideal S10000x10000 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) (w5 : FVec Ideal S128x128 .f32) (b5 : FVec Ideal S128 .f32)
    (w6 : FVec Ideal S128x128 .f32) (b6 : FVec Ideal S128 .f32) : FVec Ideal S10000x128 .f32 := fun i =>
  network A (fun p j => x (ix2 p j)) (weights w1 w2 w3 w4 w5 w6) (biases b1 b2 b3 b4 b5 b6) (i 0) (i 1)

variable (m : (ℓ : Loc nD τ sig) → Buf (Elt Ideal) ℓ)

/-- An argument's contents at launch. -/
abbrev arg (c : Dev nD) (r : Ref sig .tc) : Buf (Elt Ideal) ((c.tc : Thread nD τ).loc r) := m ((c.tc : Thread nD τ).loc r)

/-- Every row of the matrix sums to one. -/
def RowsOne (A : FVec Ideal S10000x10000 .f32) : Prop := ∀ p : Fin 10000, ∑ k : Fin 10000, A (ix2 p k) = (1 : EReal)

theorem value (c : Dev nD) (hA : RowsOne (arg m c main_arg1))
    (V : Valuation τ sig (Elt Ideal)) (h : P5 m c V) :
    V (Proc.devRef .tc main_v27) = networkG (arg m c main_arg0) (arg m c main_arg1) (arg m c main_arg2) (arg m c main_arg3) (arg m c main_arg4)
      (arg m c main_arg5) (arg m c main_arg6) (arg m c main_arg7) (arg m c main_arg8) (arg m c main_arg9) (arg m c main_arg10)
      (arg m c main_arg11) (arg m c main_arg12) (arg m c main_arg13) := by
  obtain ⟨V4, ⟨V3, ⟨V2, ⟨V1, ⟨V0', rfl, rfl⟩, h2⟩, rfl⟩, h4⟩, rfl⟩ := h
  generalize hV1 : StableHlo.after hostOps0 (V0 m c) = V1 at h2
  have k0 : V1 (Proc.devRef .tc main_arg0) = arg m c main_arg0 := by
    rw [← hV1]; exact StableHlo.after_of_writes_sub hostOps0 _ hostOps0_writes (by decide)
  have k1 : V1 (Proc.devRef .tc main_arg1) = arg m c main_arg1 := by
    rw [← hV1]; exact StableHlo.after_of_writes_sub hostOps0 _ hostOps0_writes (by decide)
  have a6 := array6 c (h2.1 6)
  have a7 := array7 c (h2.1 7)
  have a8 := array8 c (h2.1 8)
  have s6 : StableHlo.after hostOps1 V2 (Proc.devRef .tc main_v13_0) = scaledG (arg m c main_arg1) :=
    (StableHlo.after_of_writes_sub hostOps1 _ hostOps1_writes (by decide)).trans (a6.trans (congrArg scaledG k1))
  have s8 : StableHlo.after hostOps1 V2 (Proc.devRef .tc main_v13_2) = inverseG (arg m c main_arg1) (V1 (Proc.devRef .tc main_v12)) :=
    (StableHlo.after_of_writes_sub hostOps1 _ hostOps1_writes (by decide)).trans (a8.trans (congrArg (inverseG · _) k1))
  have s7 := (StableHlo.after_of_writes_sub hostOps1 V2 hostOps1_writes (by decide : main_v13_1 ∉ hostOps1_W)).trans a7
  have a5 := array5 c (h4.1 5)
  funext i
  obtain ⟨p, q, rfl⟩ : ∃ (p : Fin 10000) (q : Fin 128), i = ix2 p q := ⟨i 0, i 1, eq_ix2 i⟩
  rw [third_v27]
  refine (congrFun a5 _).trans ?_
  have e : ∀ (r : Ref sig .tc), r ∉ Finset.univ.image (Pipeline.arrRef spec0) → V2 (Proc.devRef .tc r) = V1 (Proc.devRef .tc r) := h2.2
  have v12 : ∀ k : Fin 10240, (V1 (Proc.devRef .tc main_v12) : FVec Ideal S10240x128 .bf16) (ix2 k 0) = (1 : EReal) := fun k => by
    rw [← hV1]; exact first_v12 _ k 0
  rw [k0, k1] at s7
  unfold outG hidV
  rw [s6, s8, s7]
  refine out_network (arg m c main_arg1) (fun p j => (arg m c main_arg0 : FVec Ideal S10000x128 .f32) (ix2 p j))
    (weights (arg m c main_arg2) (arg m c main_arg4) (arg m c main_arg6) (arg m c main_arg8) (arg m c main_arg10) (arg m c main_arg12))
    (biases (arg m c main_arg3) (arg m c main_arg5) (arg m c main_arg7) (arg m c main_arg9) (arg m c main_arg11) (arg m c main_arg13))
    hA _ v12 _ _ _ (fun l hl j q => ?_) (fun l hl q => ?_)
    (hidden_layers _ _ _ _ _ _ _ _ (fun p j => rfl) (fun j q => ?_) (fun j q => ?_) (fun q => ?_)) p q
  · obtain ⟨g0, g1, g2, g3⟩ := second_v19 V2 j q
    obtain ⟨f0, f1, f2, f3⟩ := first_weights (V0 m c) (ix2 j q)
    rw [hV1] at f0 f1 f2 f3
    match l, hl with
    | 0, _ => exact g0.trans ((congrFun (e main_v2 (by decide)) _).trans f0)
    | 1, _ => exact g1.trans ((congrFun (e main_v3 (by decide)) _).trans f1)
    | 2, _ => exact g2.trans ((congrFun (e main_v4 (by decide)) _).trans f2)
    | 3, _ => exact g3.trans ((congrFun (e main_v5 (by decide)) _).trans f3)
  · obtain ⟨g0, g1, g2, g3, g4⟩ := second_v25 V2 q
    obtain ⟨f0, f1, f2, f3, f4⟩ := first_biases (V0 m c) q
    rw [hV1] at f0 f1 f2 f3 f4
    match l, hl with
    | 0, _ => exact g0.trans ((congrFun (e main_v7 (by decide)) _).trans f0)
    | 1, _ => exact g1.trans ((congrFun (e main_v8 (by decide)) _).trans f1)
    | 2, _ => exact g2.trans ((congrFun (e main_v9 (by decide)) _).trans f2)
    | 3, _ => exact g3.trans ((congrFun (e main_v10 (by decide)) _).trans f3)
    | 4, _ => exact g4.trans ((congrFun (e main_v11 (by decide)) _).trans f4)
  · rw [← hV1]; exact first_v0 _ _
  · rw [← hV1]; exact first_v1 _ _
  · rw [← hV1]; exact first_v6 _ _

end Cert.Proof
-- ==== Proof.Precondition.lean ====
/-
  The precondition read: where it holds, every row of the adjacency sums to one.
-/
module

public import proofs.«01_k».proof.Defs
public import proofs.«01_k».proof.Proof.Gen.Pre_rows_sum_to_one
public import proofs.«01_k».proof.Proof.Value
public import Idealize.ShloMosaic.Lib.Pointwise

@[expose] public section

set_option maxRecDepth 16384

noncomputable section

namespace Cert.Proof

open Idealize.ShloMosaic Idealize.ShloMosaic.TcCoe
open Cert.Pre_rows_sum_to_one

/-- Two reals of which the comparison for equality gives true are equal. -/
theorem eq_of_cmp_oeq (a b : EReal) (h : FloatOps.cmpf (F := Ideal) (φ := .f32) .oeq a b = 1#1) : a = b := by
  by_contra hne
  have h0 : FloatOps.cmpf (F := Ideal) (φ := .f32) .oeq a b = 0#1 := by
    show BitVec.ofBool (decide (a = b)) = 0#1
    rw [decide_eq_false hne]
    rfl
  exact absurd (h0.symm.trans h) (by decide)

/-- The sum of a row, as the precondition takes it. -/
def hostSum (A : FVec Ideal S10000x10000 .f32) : FVec Ideal S10000 .f32 :=
  Host.reduceAdd A (constant S_ .f32 0x00000000#32) Cert.Pre_rows_sum_to_one.Gen.facts.reducesTo_S10000x10000_S10000_d1
    Cert.Pre_rows_sum_to_one.Gen.facts.h_S_

theorem hostSum_apply (A : FVec Ideal S10000x10000 .f32) (p : Fin 10000) : hostSum A (ix1 p) = ∑ k : Fin 10000, A (ix2 p k) := by
  pointwise [hostSum]

/-- One at every row, as the precondition writes it. -/
def hostOne : FVec Ideal S10000 .f32 :=
  broadcastInDim S10000 ![] Cert.Pre_rows_sum_to_one.Gen.facts.bcast_S_S10000 (constant S_ .f32 0x3F800000#32)

theorem hostOne_apply (p : Fin 10000) : hostOne (ix1 p) = (1 : EReal) := by
  pointwise [hostOne]

theorem rows_one (A : FVec Ideal S10000x10000 .f32) (h : cmpf .oeq (hostSum A) hostOne = fun _ => 1#1) : RowsOne A := by
  intro p
  have h1 := eq_of_cmp_oeq (hostSum A (ix1 p)) (hostOne (ix1 p)) (congrFun h (ix1 p))
  rwa [hostSum_apply, hostOne_apply] at h1

/-- The precondition of the claim, of the adjacency on a device. -/
theorem rows_one_of_pre (m : (ℓ : Loc Cert.KernelIdeal.nD Cert.KernelIdeal.τ Cert.KernelIdeal.sig) → Buf (Elt Ideal) ℓ)
    (h : Cert.Pre_KernelIdeal_rows_sum_to_one (hPre_rows_sum_to_one := Cert.Pre_rows_sum_to_one.Gen.facts) m) (c : Dev Cert.KernelIdeal.nD) :
    RowsOne (arg m c Cert.KernelIdeal.main_arg1) :=
  rows_one _ (h c)

end Cert.Proof
-- ==== Proof.ReferenceValue.lean ====
/-
  The reference's result: its six layers of host operations, read at an element, are the network.
-/
module

public import proofs.«01_k».proof.Proof.Reference
public import proofs.«01_k».proof.Proof.Value
public import Idealize.ShloMosaic.Lib.Pointwise

@[expose] public section

set_option maxRecDepth 16384

noncomputable section

namespace Cert.Proof

open Cert.ReferenceIdeal Cert.ReferenceIdeal.Gen
open Idealize.ShloMosaic Idealize.ShloMosaic.TcCoe Idealize.SL.Sem

/-- The reference's product of features and weights. -/
def hostProject (h : FVec Ideal S10000x128 .f32) (w : FVec Ideal S128x128 .f32) : FVec Ideal S10000x128 .f32 :=
  Host.dotGeneral dot_S10000x128_S128x128_S10000x128_1_0_0_1_n_n none h w

/-- The reference's sum along the edges, with its bias. -/
def hostConv (A : FVec Ideal S10000x10000 .f32) (t : FVec Ideal S10000x128 .f32) (b : FVec Ideal S128 .f32) : FVec Ideal S10000x128 .f32 :=
  addf (Host.dotGeneral dot_S10000x10000_S10000x128_S10000x128_1_0_0_1_n_n none A t)
    (broadcastInDim S10000x128 ![0, 1] bcast_S1x128_S10000x128_0_1 (broadcastInDim S1x128 ![1] bcast_S128_S1x128_1 b))

/-- The reference's hidden layer, projected by the next layer's weights. -/
def hostNext (A : FVec Ideal S10000x10000 .f32) (t : FVec Ideal S10000x128 .f32) (b : FVec Ideal S128 .f32) (w : FVec Ideal S128x128 .f32) :
    FVec Ideal S10000x128 .f32 :=
  hostProject (maximumf (hostConv A t b) (broadcastInDim S10000x128 ![] bcast_S_S10000x128 (constant S_ .f32 0x00000000#32))) w

theorem hostProject_apply (h : FVec Ideal S10000x128 .f32) (w : FVec Ideal S128x128 .f32) (p : Fin 10000) (q : Fin 128) :
    hostProject h w (ix2 p q) = ∑ j : Fin 128, h (ix2 p j) * w (ix2 j q) := by
  pointwise [hostProject]

theorem hostConv_apply (A : FVec Ideal S10000x10000 .f32) (t : FVec Ideal S10000x128 .f32) (b : FVec Ideal S128 .f32) (p : Fin 10000) (q : Fin 128) :
    hostConv A t b (ix2 p q) = (∑ k : Fin 10000, A (ix2 p k) * t (ix2 k q)) + b (ix1 q) := by
  pointwise [hostConv]

theorem hostNext_apply (A : FVec Ideal S10000x10000 .f32) (t : FVec Ideal S10000x128 .f32) (b : FVec Ideal S128 .f32) (w : FVec Ideal S128x128 .f32)
    (p : Fin 10000) (q : Fin 128) :
    hostNext A t b w (ix2 p q) = ∑ j : Fin 128, max ((∑ k : Fin 10000, A (ix2 p k) * t (ix2 k j)) + b (ix1 j)) 0 * w (ix2 j q) := by
  rw [hostNext, hostProject_apply]
  refine Finset.sum_congr rfl fun j _ => ?_
  rw [← hostConv_apply]
  pointwise

/-- A hidden layer of the reference continues the network's. -/
theorem hostNext_layers (A : FVec Ideal S10000x10000 .f32) (x : Fin 10000 → Fin 128 → EReal) (w : ℕ → Fin 128 → Fin 128 → EReal) (b : ℕ → Fin 128 → EReal)
    (n : ℕ) (t : FVec Ideal S10000x128 .f32) (ht : ∀ p q, t (ix2 p q) = layers A x w b n p q) (c : FVec Ideal S128 .f32) (hc : ∀ q, c (ix1 q) = b n q)
    (v : FVec Ideal S128x128 .f32) (hv : ∀ j q, v (ix2 j q) = w (n + 1) j q) (p : Fin 10000) (q : Fin 128) :
    hostNext A t c v (ix2 p q) = layers A x w b (n + 1) p q := by
  rw [hostNext_apply, layers]
  simp only [ht, hc, hv]

/-- The reference's result as an array of the arguments. -/
def hostNetwork (x : FVec Ideal S10000x128 .f32) (A : FVec Ideal S10000x10000 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) (w5 : FVec Ideal S128x128 .f32) (b5 : FVec Ideal S128 .f32)
    (w6 : FVec Ideal S128x128 .f32) (b6 : FVec Ideal S128 .f32) : FVec Ideal S10000x128 .f32 :=
  hostConv A (hostNext A (hostNext A (hostNext A (hostNext A (hostNext A (hostProject x w1) b1 w2) b2 w3) b3 w4) b4 w5) b5 w6) b6

theorem hostNetwork_eq (x : FVec Ideal S10000x128 .f32) (A : FVec Ideal S10000x10000 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) (w5 : FVec Ideal S128x128 .f32) (b5 : FVec Ideal S128 .f32)
    (w6 : FVec Ideal S128x128 .f32) (b6 : FVec Ideal S128 .f32) :
    hostNetwork x A w1 b1 w2 b2 w3 b3 w4 b4 w5 b5 w6 b6 = networkG x A w1 b1 w2 b2 w3 b3 w4 b4 w5 b5 w6 b6 := by
  funext i
  obtain ⟨p, q, rfl⟩ : ∃ (p : Fin 10000) (q : Fin 128), i = ix2 p q := ⟨i 0, i 1, eq_ix2 i⟩
  have step := hostNext_layers A (fun p j => x (ix2 p j)) (weights w1 w2 w3 w4 w5 w6) (biases b1 b2 b3 b4 b5 b6)
  have h0 := step 0 _ (fun p q => hostProject_apply x w1 p q) b1 (fun _ => rfl) w2 fun _ _ => rfl
  have h1 := step 1 _ h0 b2 (fun _ => rfl) w3 fun _ _ => rfl
  have h2 := step 2 _ h1 b3 (fun _ => rfl) w4 fun _ _ => rfl
  have h3 := step 3 _ h2 b4 (fun _ => rfl) w5 fun _ _ => rfl
  have h4 := step 4 _ h3 b5 (fun _ => rfl) w6 fun _ _ => rfl
  rw [hostNetwork, hostConv_apply]
  simp only [h4]
  rfl

/-- The reference's run: its result the network of its arguments, its arguments unchanged. -/
theorem reference_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = networkG (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) :=
  θ_run_mono (Cert.ReferenceIdeal.Value.run m ρ) fun _ h c => (h c).1.trans (hostNetwork_eq _ _ _ _ _ _ _ _ _ _ _ _ _ _)

end Cert.Proof
-- ==== Proof.Algebraic.lean ====
/-
  The kernel's run and the reference's end with the same array: the network of their arguments.
-/
module

public import proofs.«01_k».proof.Proof.Frames
public import proofs.«01_k».proof.Proof.Precondition
public import proofs.«01_k».proof.Proof.ReferenceValue
public import Idealize.ShloMosaic.Lib.Claim

@[expose] public section

noncomputable section

namespace Cert.Proof

open Cert.KernelIdeal Cert.KernelIdeal.Gen
open Idealize.ShloMosaic Idealize.ShloMosaic.TcCoe Idealize.SL.Sem

theorem result_unscoped : Proc.devRef .tc main_v27 ∈ Pipeline.ucRefs τ sig :=
  Finset.mem_filter.mpr ⟨StableHlo.devRef_mem_tcRefs main_v27, by decide⟩

/-- The network of the arguments on a device. -/
def networkOf (m : (ℓ : Loc nD τ sig) → Buf (Elt Ideal) ℓ) (c : Dev nD) : FVec Ideal S10000x128 .f32 :=
  networkG (arg m c main_arg0) (arg m c main_arg1) (arg m c main_arg2) (arg m c main_arg3) (arg m c main_arg4) (arg m c main_arg5) (arg m c main_arg6)
    (arg m c main_arg7) (arg m c main_arg8) (arg m c main_arg9) (arg m c main_arg10) (arg m c main_arg11) (arg m c main_arg12) (arg m c main_arg13)

/-- The kernel's run: its result the network of its arguments. -/
theorem kernel_result (m : (ℓ : Loc nD τ sig) → Buf (Elt Ideal) ℓ) (g : Dev nD → PrngReg) (hA : ∀ c, RowsOne (arg m c main_arg1)) :
    θ_run (defs (F := Ideal)) (onTc (τ := τ) (main (F := Ideal))) ⟨m, fun _ => 0, g⟩ fun r => ∀ c : Dev nD,
      r.2.mem ((c.tc : Thread nD τ).loc main_v27) = networkOf m c := by
  refine θ_run_mono (run m g) fun r hr c => ?_
  obtain ⟨V, hV, hm⟩ := hr.1 c
  exact (hm _ result_unscoped).trans (value m c (hA c) V hV)

theorem algebraic : Cert.algebraic_KernelIdeal_ReferenceIdeal_pre_rows_sum_to_one (hKernelIdeal := Cert.KernelIdeal.Gen.facts)
    (hReferenceIdeal := Cert.ReferenceIdeal.Gen.facts) (hPre_rows_sum_to_one := Cert.Pre_rows_sum_to_one.Gen.facts) := by
  intro m g m' g' hpre hargs
  refine ⟨networkOf m, ?_, ?_⟩
  · exact θ_run_mono (θ_run_and (kernel_result m g (rows_one_of_pre m hpre)) (frame m g)) fun r h c => ⟨h.1 c, h.2.1 c⟩
  · refine θ_run_mono (θ_run_and (reference_result m' g') (reference_frame m' g' trivial)) fun r h c => ⟨(h.1 c).trans ?_, h.2.1 c⟩
    obtain ⟨h0, h1, h2, h3, h4, h5, h6, h7, h8, h9, h10, h11, h12, h13⟩ := hargs c
    rw [h0, h1, h2, h3, h4, h5, h6, h7, h8, h9, h10, h11, h12, h13]
    rfl

end Cert.Proof
-- ==== Proof.lean ====
/-
  The claim: the frames of the three programs; the idealised program is the program as printed; and over the extended
  reals its result is the reference's, where every row of the adjacency sums to one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_rows_sum_to_one
public import proofs.«01_k».proof.Proof.Reference
public import proofs.«01_k».proof.Proof.FrameBits
public import proofs.«01_k».proof.Proof.Algebraic
public import Idealize.ShloMosaic.Adequacy
public import Idealize.ShloMosaic.Init
public import Idealize.ShloMosaic.Lib.Claim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_rows_sum_to_one.Gen.facts,
    fun m g _ => frame_bits m g, fun m g _ => frame m g, fun m g _ => frame m g,
    fun m g _ => reference_frame m g trivial, fun m g _ => reference_frame m g trivial, trivial, algebraic⟩

end Cert.Proof

end
